-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "eps" .f32 0x3651BA72#32 ((1 / 319980 : ℝ) : EReal)
  ∧ IdealRules.named_const.Statement Cert.KernelIdeal.κ "entropy" .f32 0xBFAE63F8#32 (((1 / 10) * (Real.log (129140163 / 106660000000000)) : ℝ) : EReal)
  ∧ IdealRules.named_const.Statement Cert.KernelIdeal.κ "conf_minus_eps" .f32 0x3F666632#32 ((287981 / 319980 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S2x2048x1024 : Shape := ⟨3, ![2, 2048, 1024]⟩
abbrev S2x2048 : Shape := ⟨2, ![2, 2048]⟩
abbrev S1024x32000 : Shape := ⟨2, ![1024, 32000]⟩
abbrev S32000 : Shape := ⟨1, ![32000]⟩
abbrev S_ : Shape := ⟨0, ![]⟩

class Facts : Prop where
  bcast_S_S2x2048x1024 : S_.BroadcastsInDim S2x2048x1024 (![] : Fin 0 → Fin S2x2048x1024.rank)
  bcast_S_S2x2048 : S_.BroadcastsInDim S2x2048 (![] : Fin 0 → Fin S2x2048.rank)
  bcast_S_S1024x32000 : S_.BroadcastsInDim S1024x32000 (![] : Fin 0 → Fin S1024x32000.rank)
  bcast_S_S32000 : S_.BroadcastsInDim S32000 (![] : Fin 0 → Fin S32000.rank)

variable [Facts]

def fn {F : FTy → Type} [FloatOps F] (main_arg0 : FVec F S2x2048x1024 .f32) (main_arg1 : IVec S2x2048 32) (main_arg2 : FVec F S1024x32000 .f32) (main_arg3 : FVec F S32000 .f32) : IVec S2x2048x1024 1 × IVec S2x2048 1 × IVec S1024x32000 1 × IVec S32000 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 32 := constantI S_ 32 0#32
  let main_v3 : IVec S2x2048 32 := broadcastInDim S2x2048 ![] bcast_S_S2x2048 main_c
  let main_v4 : IVec S2x2048 1 := cmpi .sge main_arg1 main_v3
  let main_c_0 : IVec S_ 32 := constantI S_ 32 32000#32
  let main_v5 : IVec S2x2048 32 := broadcastInDim S2x2048 ![] bcast_S_S2x2048 main_c_0
  let main_v6 : IVec S2x2048 1 := cmpi .slt main_arg1 main_v5
  let main_v7 : IVec S2x2048 1 := andi main_v4 main_v6
  let main_v8 : FVec F S1024x32000 .f32 := Host.absf main_arg2
  let main_cst_1 : FVec F S_ .f32 := constant S_ .f32 0x7F800000#32
  let main_v9 : FVec F S1024x32000 .f32 := broadcastInDim S1024x32000 ![] bcast_S_S1024x32000 main_cst_1
  let main_v10 : IVec S1024x32000 1 := cmpf .olt main_v8 main_v9
  let main_v11 : FVec F S32000 .f32 := Host.absf main_arg3
  let main_cst_2 : FVec F S_ .f32 := constant S_ .f32 0x7F800000#32
  let main_v12 : FVec F S32000 .f32 := broadcastInDim S32000 ![] bcast_S_S32000 main_cst_2
  let main_v13 : IVec S32000 1 := cmpf .olt main_v11 main_v12
  (main_v2, main_v7, main_v10, main_v13)
-- ==== Kernel.lean ====
abbrev S2x2048x1024 : Shape := ⟨3, ![2, 2048, 1024]⟩
abbrev S2x2048 : Shape := ⟨2, ![2, 2048]⟩
abbrev S1024x32000 : Shape := ⟨2, ![1024, 32000]⟩
abbrev S32000 : Shape := ⟨1, ![32000]⟩
abbrev S_ : Shape := ⟨0, ![]⟩
abbrev S4096x1024 : Shape := ⟨2, ![4096, 1024]⟩
abbrev S1x32000 : Shape := ⟨2, ![1, 32000]⟩
abbrev S4096x1 : Shape := ⟨2, ![4096, 1]⟩
abbrev S4096x128 : Shape := ⟨2, ![4096, 128]⟩
abbrev S1024x128 : Shape := ⟨2, ![1024, 128]⟩
abbrev S1024x1280 : Shape := ⟨2, ![1024, 1280]⟩
abbrev S1x1280 : Shape := ⟨2, ![1, 1280]⟩
abbrev S4096x1280 : Shape := ⟨2, ![4096, 1280]⟩
abbrev S1x1 : Shape := ⟨2, ![1, 1]⟩
abbrev S1024 : Shape := ⟨1, ![1024]⟩
abbrev S1024x1 : Shape := ⟨2, ![1024, 1]⟩
abbrev S1024x2 : Shape := ⟨2, ![1024, 2]⟩
abbrev S4096x2 : Shape := ⟨2, ![4096, 2]⟩
abbrev S1x1x32000 : Shape := ⟨3, ![1, 1, 32000]⟩
abbrev S1 : Shape := ⟨1, ![1]⟩
abbrev S1x1x1 : Shape := ⟨3, ![1, 1, 1]⟩
abbrev S4096 : Shape := ⟨1, ![4096]⟩
abbrev S1x4096x1 : Shape := ⟨3, ![1, 4096, 1]⟩

abbrev nBuf : Space → Nat
  | .hbm => 21
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S1024x32000, .f32⟩
  | .hbm, ⟨3, _⟩ => ⟨S32000, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S32000, .f32⟩
  | .hbm, ⟨13, _⟩ => ⟨S32000, .f32⟩
  | .hbm, ⟨14, _⟩ => ⟨S1x32000, .f32⟩
  | .hbm, ⟨15, _⟩ => ⟨S4096x1, .i32⟩
  | .hbm, ⟨16, _⟩ => ⟨S4096x128, .f32⟩
  | .hbm, ⟨17, _⟩ => ⟨S4096x128, .f32⟩
  | .hbm, ⟨18, _⟩ => ⟨S1024x128, .f32⟩
  | .hbm, ⟨19, _⟩ => ⟨S1x1, .f32⟩
  | .hbm, ⟨20, _⟩ => ⟨S_, .f32⟩
  | .local _ .vmem, ⟨0, _⟩ => ⟨S4096x1024, .bf16⟩
  | .local _ .vmem, ⟨1, _⟩ => ⟨S1024x1280, .f32⟩
  | .local _ .vmem, ⟨2, _⟩ => ⟨S1024x1280, .f32⟩
  | .local _ .vmem, ⟨3, _⟩ => ⟨S1x1280, .f32⟩
  | .local _ .vmem, ⟨4, _⟩ => ⟨S1x1280, .f32⟩
  | .local _ .vmem, ⟨5, _⟩ => ⟨S4096x1, .i32⟩
  | .local _ .vmem, ⟨6, _⟩ => ⟨S4096x128, .f32⟩
  | .local _ .vmem, ⟨7, _⟩ => ⟨S4096x128, .f32⟩
  | .local _ .vmem, ⟨8, _⟩ => ⟨S1024x128, .f32⟩
  | .local _ .vmem, ⟨9, _⟩ => ⟨S4096x1024, .bf16⟩
  | .local _ .vmem, ⟨10, _⟩ => ⟨S1024x128, .f32⟩
  | .local _ .vmem, ⟨11, _⟩ => ⟨S1x32000, .f32⟩
  | .local _ .vmem, ⟨12, _⟩ => ⟨S4096x1, .i32⟩
  | .local _ .vmem, ⟨13, _⟩ => ⟨S4096x128, .f32⟩
  | .local _ .vmem, ⟨14, _⟩ => ⟨S4096x128, .f32⟩
  | .local _ .vmem, ⟨15, _⟩ => ⟨S1024x128, .f32⟩
  | .local _ .vmem, ⟨16, _⟩ => ⟨S1x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== KernelIdeal.lean ====
variable {F : FTy → Type} [FloatOps F] [Named F]
def κ : String → Option EReal := fun
  | "conf_minus_eps" => some ((287981 / 319980 : ℝ) : EReal)
  | "entropy" => some (((1 / 10) * (Real.log (129140163 / 106660000000000)) : ℝ) : EReal)
  | "eps" => some ((1 / 319980 : ℝ) : EReal)
  | "log2e" => some (((Real.log 2)⁻¹ : ℝ) : EReal)
  | _ => none
-- ==== ReferenceIdeal.lean ====
abbrev S2x2048x1024 : Shape := ⟨3, ![2, 2048, 1024]⟩
abbrev S2x2048 : Shape := ⟨2, ![2, 2048]⟩
abbrev S1024x32000 : Shape := ⟨2, ![1024, 32000]⟩
abbrev S32000 : Shape := ⟨1, ![32000]⟩
abbrev S4096x1024 : Shape := ⟨2, ![4096, 1024]⟩
abbrev S4096x32000 : Shape := ⟨2, ![4096, 32000]⟩
abbrev S1x32000 : Shape := ⟨2, ![1, 32000]⟩
abbrev S_ : Shape := ⟨0, ![]⟩
abbrev S4096 : Shape := ⟨1, ![4096]⟩
abbrev S4096x1 : Shape := ⟨2, ![4096, 1]⟩
abbrev S1 : Shape := ⟨1, ![1]⟩
abbrev S4096x2 : Shape := ⟨2, ![4096, 2]⟩

abbrev nBuf : Space → Nat
  | .hbm => 83
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S1024x32000, .f32⟩
  | .hbm, ⟨3, _⟩ => ⟨S32000, .f32⟩
  | .hbm, ⟨4, _⟩ => ⟨S4096x1024, .f32⟩
  | .hbm, ⟨5, _⟩ => ⟨S4096x32000, .f32⟩
  | .hbm, ⟨6, _⟩ => ⟨S1x32000, .f32⟩
  | .hbm, ⟨7, _⟩ => ⟨S4096x32000, .f32⟩
  | .hbm, ⟨8, _⟩ => ⟨S4096x32000, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S4096x32000, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S4096x32000, .f32⟩
  | .hbm, ⟨23, _⟩ => ⟨S4096x32000, .f32⟩
  | .hbm, ⟨24, _⟩ => ⟨S4096, .i32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32000, .f32⟩
  | .hbm, ⟨33, _⟩ => ⟨S_, .i32⟩
  | .hbm, ⟨34, _⟩ => ⟨S1, .i32⟩
  | .hbm, ⟨35, _⟩ => ⟨S_, .f32⟩
  | .hbm, ⟨36, _⟩ => ⟨S32000, .f32⟩
  | .hbm, ⟨37, _⟩ => ⟨S4096x32000, .f32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S4096x1, .i32⟩
  | .hbm, ⟨55, _⟩ => ⟨S4096x2, .i32⟩
  | .hbm, ⟨56, _⟩ => ⟨S4096, .f32⟩
  | .hbm, ⟨57, _⟩ => ⟨S4096x32000, .f32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S4096x1, .i1⟩
  | .hbm, ⟨62, _⟩ => ⟨S_, .f32⟩
  | .hbm, ⟨63, _⟩ => ⟨S_, .f32⟩
  | .hbm, ⟨64, _⟩ => ⟨S4096x32000, .i1⟩
  | .hbm, ⟨65, _⟩ => ⟨S4096x32000, .f32⟩
  | .hbm, ⟨66, _⟩ => ⟨S4096x32000, .f32⟩
  | .hbm, ⟨67, _⟩ => ⟨S_, .f32⟩
  | .hbm, ⟨68, _⟩ => ⟨S4096x32000, .f32⟩
  | .hbm, ⟨69, _⟩ => ⟨S4096x32000, .i1⟩
  | .hbm, ⟨70, _⟩ => ⟨S4096x32000, .i1⟩
  | .hbm, ⟨71, _⟩ => ⟨S4096x32000, .i1⟩
  | .hbm, ⟨72, _⟩ => ⟨S4096x32000, .f32⟩
  | .hbm, ⟨73, _⟩ => ⟨S4096x32000, .f32⟩
  | .hbm, ⟨74, _⟩ => ⟨S_, .f32⟩
  | .hbm, ⟨75, _⟩ => ⟨S4096x32000, .f32⟩
  | .hbm, ⟨76, _⟩ => ⟨S4096x32000, .f32⟩
  | .hbm, ⟨77, _⟩ => ⟨S4096x32000, .f32⟩
  | .hbm, ⟨78, _⟩ => ⟨S4096x32000, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_cst_0 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_v15 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_6 : Ref sig .tc := ⟨.hbm, 46, rfl⟩
abbrev main_v20 : Ref sig .tc := ⟨.hbm, 47, rfl⟩
abbrev main_v21 : Ref sig .tc := ⟨.hbm, 48, rfl⟩
abbrev main_c_7 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v33 : Ref sig .tc := ⟨.hbm, 66, rfl⟩
abbrev main_cst_10 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_11 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_12 : Ref sig .tc := ⟨.hbm, 79, rfl⟩
abbrev main_v44 : Ref sig .tc := ⟨.hbm, 80, rfl⟩
abbrev main_cst_13 : Ref sig .tc := ⟨.hbm, 81, rfl⟩
abbrev main_v45 : Ref sig .tc := ⟨.hbm, 82, rfl⟩

abbrev nD : Nat := 1
abbrev τ : Topo := Topo.v7x

variable {F : FTy → Type} [FloatOps F]
-- ==== Proof.KernelIdealBodies.lean ====
/- The two kernel bodies of KernelIdeal: what each leaves in its output buffers, point by point, as plain terms over
   the blocks it reads, and the pipeline's obligation for each. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic
public import Idealize.ShloMosaic.Lib.WordCmp

@[expose] public section

-- the accesses are rectangles of the arrays' own extents, whose membership the elaborator looks through coordinate by coordinate
set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem zeros2 : (![0, 0] : Fin 2 → ℕ) = fun _ => 0 := by decide

/-! ## What one point of the first kernel leaves -/

/-- The word the body branches on: one at the first grid point. -/
def first (i : grid0.Coords) : BitVec 1 := Scalar.cmpi .eq (BitVec.ofNat 32 (i 0).val) 0#32

/-- The first result after the body: the row sums of the exponentials by lane, added to `p` except at the first point. -/
def sStep (i : grid0.Coords) (x : Vec F S4096x1024 .bf16) (w : Vec F S1024x1280 .f32) (b : Vec F S1x1280 .f32)
    (p : Vec F S4096x128 .f32) : Vec F S4096x128 .f32 :=
  k0_pay6 (first i) (k0_pay2 w x b) (k0_pay4 w x b) p

/-- The second result after the body: the logits at the label's column by lane, added to `p` except at the first point. -/
def lStep (i : grid0.Coords) (x : Vec F S4096x1024 .bf16) (w : Vec F S1024x1280 .f32) (b : Vec F S1x1280 .f32)
    (g : Vec F S4096x1 .i32) (p : Vec F S4096x128 .f32) : Vec F S4096x128 .f32 :=
  k0_pay7 (first i) (k0_pay3 i w x b g) (k0_pay5 i w x b g) p

/-- The third result after the body: the columns of `W` summed by lane, added to `p` except at the first point. -/
def cStep (i : grid0.Coords) (w : Vec F S1024x1280 .f32) (p : Vec F S1024x128 .f32) : Vec F S1024x128 .f32 :=
  k0_pay8 (first i) w p

/-- At the first point the word is one. -/
theorem first_zero (i : grid0.Coords) (h : (i 0).val = 0) : first i = 1#1 := by
  unfold first; rw [h]; decide

/-- At the first point the first result does not depend on what its buffer held. -/
theorem sStep_first (i : grid0.Coords) (h : (i 0).val = 0) (x : Vec F S4096x1024 .bf16) (w : Vec F S1024x1280 .f32)
    (b : Vec F S1x1280 .f32) (p q : Vec F S4096x128 .f32) : sStep i x w b p = sStep i x w b q := by
  unfold sStep k0_pay6; rw [first_zero i h]; rfl

/-- At the first point the second result does not depend on what its buffer held. -/
theorem lStep_first (i : grid0.Coords) (h : (i 0).val = 0) (x : Vec F S4096x1024 .bf16) (w : Vec F S1024x1280 .f32)
    (b : Vec F S1x1280 .f32) (g : Vec F S4096x1 .i32) (p q : Vec F S4096x128 .f32) :
    lStep i x w b g p = lStep i x w b g q := by
  unfold lStep k0_pay7; rw [first_zero i h]; rfl

/-- At the first point the third result does not depend on what its buffer held. -/
theorem cStep_first (i : grid0.Coords) (h : (i 0).val = 0) (w : Vec F S1024x1280 .f32)
    (p q : Vec F S1024x128 .f32) : cStep i w p = cStep i w q := by
  unfold cStep k0_pay8; rw [first_zero i h]; rfl

/-- What the second kernel stores, from the blocks it reads: the loss, a one by one array. -/
def fin (x : Vec F S4096x1024 .bf16) (w : Vec F S1024x128 .f32) (b : Vec F S1x32000 .f32) (g : Vec F S4096x1 .i32)
    (s l : Vec F S4096x128 .f32) (cs : Vec F S1024x128 .f32) : Vec F S1x1 .f32 :=
  k1_pay1 (k1_pay3 cs (View.ld w (Rect.unit (s := S1024x128) ![0, 0] S1024x1.size inb_S1024x128_S1024x1_0_0)) x b)
    (k1_pay4 cs (View.ld w (Rect.unit (s := S1024x128) ![0, 0] S1024x1.size inb_S1024x128_S1024x1_0_0)) x
      (View.ld b (Rect.unit (s := S1x32000) ![0, 0] S1x1.size inb_S1x32000_S1x1_0_0)))
    (k1_pay5 s) (k1_pay6 l) (Named.named κ "log2e" 0x3FB8AA3B#32) g

/-- Loading all of a buffer of this shape gives its contents. -/
theorem ld_S4096x1024 (x : Vec F S4096x1024 .bf16) : View.ld x (Rect.unit (s := S4096x1024) ![0, 0] S4096x1024.size inb_S4096x1024_S4096x1024_0_0) = x :=
  View.ld_unit_zero (S := S4096x1024) zeros2 _ _

/-- Loading all of a buffer of this shape gives its contents. -/
theorem ld_S1024x1280 (x : Vec F S1024x1280 .f32) : View.ld x (Rect.unit (s := S1024x1280) ![0, 0] S1024x1280.size inb_S1024x1280_S1024x1280_0_0) = x :=
  View.ld_unit_zero (S := S1024x1280) zeros2 _ _

/-- Loading all of a buffer of this shape gives its contents. -/
theorem ld_S1x1280 (x : Vec F S1x1280 .f32) : View.ld x (Rect.unit (s := S1x1280) ![0, 0] S1x1280.size inb_S1x1280_S1x1280_0_0) = x :=
  View.ld_unit_zero (S := S1x1280) zeros2 _ _

/-- Loading all of a buffer of this shape gives its contents. -/
theorem ld_S4096x1 (x : Vec F S4096x1 .i32) : View.ld x (Rect.unit (s := S4096x1) ![0, 0] S4096x1.size inb_S4096x1_S4096x1_0_0) = x :=
  View.ld_unit_zero (S := S4096x1) zeros2 _ _

/-- Loading all of a buffer of this shape gives its contents. -/
theorem ld_S4096x128 (x : Vec F S4096x128 .f32) : View.ld x (Rect.unit (s := S4096x128) ![0, 0] S4096x128.size inb_S4096x128_S4096x128_0_0) = x :=
  View.ld_unit_zero (S := S4096x128) zeros2 _ _

/-- Loading all of a buffer of this shape gives its contents. -/
theorem ld_S1024x128 (x : Vec F S1024x128 .f32) : View.ld x (Rect.unit (s := S1024x128) ![0, 0] S1024x128.size inb_S1024x128_S1024x128_0_0) = x :=
  View.ld_unit_zero (S := S1024x128) zeros2 _ _

/-- Loading all of a buffer of this shape gives its contents. -/
theorem ld_S1x32000 (x : Vec F S1x32000 .f32) : View.ld x (Rect.unit (s := S1x32000) ![0, 0] S1x32000.size inb_S1x32000_S1x32000_0_0) = x :=
  View.ld_unit_zero (S := S1x32000) zeros2 _ _

/-- The first step over the loads the body makes, which are of whole buffers. -/
theorem sStep_ld (i : grid0.Coords) (x : Vec F S4096x1024 .bf16) (w : Vec F S1024x1280 .f32) (b : Vec F S1x1280 .f32)
    (p : Vec F S4096x128 .f32) :
    k0_pay6 (first i) (k0_pay2 (View.ld w (Rect.unit (s := S1024x1280) ![0, 0] S1024x1280.size inb_S1024x1280_S1024x1280_0_0)) (View.ld x (Rect.unit (s := S4096x1024) ![0, 0] S4096x1024.size inb_S4096x1024_S4096x1024_0_0)) (View.ld b (Rect.unit (s := S1x1280) ![0, 0] S1x1280.size inb_S1x1280_S1x1280_0_0))) (k0_pay4 (View.ld w (Rect.unit (s := S1024x1280) ![0, 0] S1024x1280.size inb_S1024x1280_S1024x1280_0_0)) (View.ld x (Rect.unit (s := S4096x1024) ![0, 0] S4096x1024.size inb_S4096x1024_S4096x1024_0_0)) (View.ld b (Rect.unit (s := S1x1280) ![0, 0] S1x1280.size inb_S1x1280_S1x1280_0_0))) (View.ld p (Rect.unit (s := S4096x128) ![0, 0] S4096x128.size inb_S4096x128_S4096x128_0_0)) = sStep i x w b p := by
  rw [ld_S1024x1280, ld_S4096x1024, ld_S1x1280, ld_S4096x128]; rfl

/-- The second step over the loads the body makes. -/
theorem lStep_ld (i : grid0.Coords) (x : Vec F S4096x1024 .bf16) (w : Vec F S1024x1280 .f32) (b : Vec F S1x1280 .f32)
    (g : Vec F S4096x1 .i32) (p : Vec F S4096x128 .f32) :
    k0_pay7 (first i) (k0_pay3 i (View.ld w (Rect.unit (s := S1024x1280) ![0, 0] S1024x1280.size inb_S1024x1280_S1024x1280_0_0)) (View.ld x (Rect.unit (s := S4096x1024) ![0, 0] S4096x1024.size inb_S4096x1024_S4096x1024_0_0)) (View.ld b (Rect.unit (s := S1x1280) ![0, 0] S1x1280.size inb_S1x1280_S1x1280_0_0)) (View.ld g (Rect.unit (s := S4096x1) ![0, 0] S4096x1.size inb_S4096x1_S4096x1_0_0))) (k0_pay5 i (View.ld w (Rect.unit (s := S1024x1280) ![0, 0] S1024x1280.size inb_S1024x1280_S1024x1280_0_0)) (View.ld x (Rect.unit (s := S4096x1024) ![0, 0] S4096x1024.size inb_S4096x1024_S4096x1024_0_0)) (View.ld b (Rect.unit (s := S1x1280) ![0, 0] S1x1280.size inb_S1x1280_S1x1280_0_0)) (View.ld g (Rect.unit (s := S4096x1) ![0, 0] S4096x1.size inb_S4096x1_S4096x1_0_0))) (View.ld p (Rect.unit (s := S4096x128) ![0, 0] S4096x128.size inb_S4096x128_S4096x128_0_0)) = lStep i x w b g p := by
  rw [ld_S1024x1280, ld_S4096x1024, ld_S1x1280, ld_S4096x1, ld_S4096x128]; rfl

/-- The third step over the loads the body makes. -/
theorem cStep_ld (i : grid0.Coords) (w : Vec F S1024x1280 .f32) (p : Vec F S1024x128 .f32) :
    k0_pay8 (first i) (View.ld w (Rect.unit (s := S1024x1280) ![0, 0] S1024x1280.size inb_S1024x1280_S1024x1280_0_0)) (View.ld p (Rect.unit (s := S1024x128) ![0, 0] S1024x128.size inb_S1024x128_S1024x128_0_0)) = cStep i w p := by
  rw [ld_S1024x1280, ld_S1024x128]; rfl

/-- The loss over the loads the second body makes. -/
theorem fin_ld (x : Vec F S4096x1024 .bf16) (w : Vec F S1024x128 .f32) (b : Vec F S1x32000 .f32) (g : Vec F S4096x1 .i32)
    (s l : Vec F S4096x128 .f32) (cs : Vec F S1024x128 .f32) :
    k1_pay1 (k1_pay3 (View.ld cs (Rect.unit (s := S1024x128) ![0, 0] S1024x128.size inb_S1024x128_S1024x128_0_0)) (View.ld w (Rect.unit (s := S1024x128) ![0, 0] S1024x1.size inb_S1024x128_S1024x1_0_0)) (View.ld x (Rect.unit (s := S4096x1024) ![0, 0] S4096x1024.size inb_S4096x1024_S4096x1024_0_0)) (View.ld b (Rect.unit (s := S1x32000) ![0, 0] S1x32000.size inb_S1x32000_S1x32000_0_0)))
      (k1_pay4 (View.ld cs (Rect.unit (s := S1024x128) ![0, 0] S1024x128.size inb_S1024x128_S1024x128_0_0)) (View.ld w (Rect.unit (s := S1024x128) ![0, 0] S1024x1.size inb_S1024x128_S1024x1_0_0)) (View.ld x (Rect.unit (s := S4096x1024) ![0, 0] S4096x1024.size inb_S4096x1024_S4096x1024_0_0))
        (View.ld b (Rect.unit (s := S1x32000) ![0, 0] S1x1.size inb_S1x32000_S1x1_0_0)))
      (k1_pay5 (View.ld s (Rect.unit (s := S4096x128) ![0, 0] S4096x128.size inb_S4096x128_S4096x128_0_0))) (k1_pay6 (View.ld l (Rect.unit (s := S4096x128) ![0, 0] S4096x128.size inb_S4096x128_S4096x128_0_0))) (Named.named κ "log2e" 0x3FB8AA3B#32) (View.ld g (Rect.unit (s := S4096x1) ![0, 0] S4096x1.size inb_S4096x1_S4096x1_0_0)) = fin x w b g s l cs := by
  rw [ld_S1024x128, ld_S4096x1024, ld_S1x32000, ld_S4096x128, ld_S4096x128, ld_S4096x1]; rfl

/-- A store over the whole buffer covers it. -/
theorem cover_S4096x128 (p : Vec F S4096x128 .f32) (y : S4096x128.Idx) :
    ∃ pc ∈ ([⟨Rect.unit (s := S4096x128) ![0, 0] S4096x128.size inb_S4096x128_S4096x128_0_0, p⟩] : List (View.Piece (Elt F) S4096x128 .f32)), y ∈ pc.1.set :=
  View.cover_of_tiled [⟨Rect.unit (s := S4096x128) ![0, 0] S4096x128.size inb_S4096x128_S4096x128_0_0, p⟩] S4096x128.size (by rfl) y

/-- A store over the whole buffer covers it. -/
theorem cover_S1024x128 (p : Vec F S1024x128 .f32) (y : S1024x128.Idx) :
    ∃ pc ∈ ([⟨Rect.unit (s := S1024x128) ![0, 0] S1024x128.size inb_S1024x128_S1024x128_0_0, p⟩] : List (View.Piece (Elt F) S1024x128 .f32)), y ∈ pc.1.set :=
  View.cover_of_tiled [⟨Rect.unit (s := S1024x128) ![0, 0] S1024x128.size inb_S1024x128_S1024x128_0_0, p⟩] S1024x128.size (by rfl) y

/-- A store over the whole buffer covers it. -/
theorem cover_S1x1 (p : Vec F S1x1 .f32) (y : S1x1.Idx) :
    ∃ pc ∈ ([⟨Rect.unit (s := S1x1) ![0, 0] S1x1.size inb_S1x1_S1x1_0_0, p⟩] : List (View.Piece (Elt F) S1x1 .f32)), y ∈ pc.1.set :=
  View.cover_of_tiled [⟨Rect.unit (s := S1x1) ![0, 0] S1x1.size inb_S1x1_S1x1_0_0, p⟩] S1x1.size (by rfl) y

/-! ## The bodies run -/

set_option maxHeartbeats 2000000 in
/-- The first body on whole buffers at any contents leaves the four inputs as they were and each result at its step. -/
theorem triple0 (c : Dev nD) (E : Set ℕ) (i : grid0.Coords) (arg1 : Memref sig .tc .vmem S4096x1024 .bf16) (harg1 : arg1.IsWhole) (arg2 : Memref sig .tc .vmem S1024x1280 .f32) (harg2 : arg2.IsWhole) (arg3 : Memref sig .tc .vmem S1x1280 .f32) (harg3 : arg3.IsWhole) (arg4 : Memref sig .tc .vmem S4096x1 .i32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1024x128 .f32) (harg7 : arg7.IsWhole)
    (x0 : Vec F S4096x1024 .bf16) (x1 : Vec F S1024x1280 .f32) (x2 : Vec F S1x1280 .f32) (x3 : Vec F S4096x1 .i32) (x4 : Vec F S4096x128 .f32) (x5 : Vec F S4096x128 .f32) (x6 : Vec F S1024x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (sStep i x0 x1 x2 x4) ∗ owns (c : Thread nD τ) arg6 fullShare (lStep i x0 x1 x2 x3 x5) ∗ owns (c : Thread nD τ) arg7 fullShare (cStep i x1 x6)) -∗ K ⟨⟩))
      ⊢ wp frame (wpE (defs₀ (F := F)) Variants.none c none) E (cc0__main_body i arg1 harg1 arg2 harg2 arg3 harg3 arg4 harg4 arg5 harg5 arg6 harg6 arg7 harg7) K := by
  simp only [cc0__main_body_eq_skeleton]; unfold cc0__main_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_S4096x128 _)).trans ?_
    rw [View.canon_unit_zero zeros2]
    exact sStep_ld i _ _ _ _
  isplitl [H5]
  · iexists _; isplitr
    swap; · iexact H5
    ipureintro
    refine (View.read_writes_eq_canon _ _ _ (cover_S4096x128 _)).trans ?_
    rw [View.canon_unit_zero zeros2]
    exact lStep_ld i _ _ _ _ _
  iexists _; isplitr
  swap; · iexact H6
  ipureintro
  refine (View.read_writes_eq_canon _ _ _ (cover_S1024x128 _)).trans ?_
  rw [View.canon_unit_zero zeros2]
  exact cStep_ld i _ _

set_option maxHeartbeats 2000000 in
/-- The second body on whole buffers at any contents leaves the seven inputs as they were and the loss in its result. -/
theorem triple1 (c : Dev nD) (E : Set ℕ) (i : grid1.Coords) (arg1 : Memref sig .tc .vmem S4096x1024 .bf16) (harg1 : arg1.IsWhole) (arg2 : Memref sig .tc .vmem S1024x128 .f32) (harg2 : arg2.IsWhole) (arg3 : Memref sig .tc .vmem S1x32000 .f32) (harg3 : arg3.IsWhole) (arg4 : Memref sig .tc .vmem S4096x1 .i32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1024x128 .f32) (harg7 : arg7.IsWhole) (arg8 : Memref sig .tc .vmem S1x1 .f32) (harg8 : arg8.IsWhole)
    (x0 : Vec F S4096x1024 .bf16) (x1 : Vec F S1024x128 .f32) (x2 : Vec F S1x32000 .f32) (x3 : Vec F S4096x1 .i32) (x4 : Vec F S4096x128 .f32) (x5 : Vec F S4096x128 .f32) (x6 : Vec F S1024x128 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (fin x0 x1 x2 x3 x4 x5 x6)) -∗ K ⟨⟩))
      ⊢ wp frame (wpE (defs₀ (F := F)) Variants.none c none) E (cc1__fin_body i arg1 harg1 arg2 harg2 arg3 harg3 arg4 harg4 arg5 harg5 arg6 harg6 arg7 harg7 arg8 harg8) K := by
  simp only [cc1__fin_body_eq_skeleton]; unfold cc1__fin_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover_S1x1 _)).trans ?_
  rw [View.canon_unit_zero zeros2]
  exact fin_ld _ _ _ _ _ _ _

section Regions
-- the buffer contents when a region is entered
variable (V : (c : Dev nD) → (b : Ref sig .tc) → Buf (Elt F) ((c : Thread nD τ).loc b))

/-! ## The proof data and the obligation of region 0, at entry contents `V` -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first result after the first `n` points: the steps folded. -/
def sSum (c : Dev nD) : ℕ → Vec F S4096x128 .f32
  | 0 => fun _ => Scalar.ofBits .f32 0#32
  | n + 1 => if h : n < cfg0.N then sStep (grid0.coords ⟨n, h⟩) (blk0 V c 0 ⟨n, h⟩) (blk0 V c 1 ⟨n, h⟩) (blk0 V c 2 ⟨n, h⟩) (sSum c n) else sSum c n

/-- One more point is one more step. -/
theorem sSum_succ (c : Dev nD) (t : Fin cfg0.N) :
    sSum V c (t.val + 1) = sStep (grid0.coords t) (blk0 V c 0 t) (blk0 V c 1 t) (blk0 V c 2 t) (sSum V c t.val) := by
  rw [sSum, dif_pos t.isLt]

/-- The second result after the first `n` points: the steps folded. -/
def lSum (c : Dev nD) : ℕ → Vec F S4096x128 .f32
  | 0 => fun _ => Scalar.ofBits .f32 0#32
  | n + 1 => if h : n < cfg0.N then lStep (grid0.coords ⟨n, h⟩) (blk0 V c 0 ⟨n, h⟩) (blk0 V c 1 ⟨n, h⟩) (blk0 V c 2 ⟨n, h⟩) (blk0 V c 3 ⟨n, h⟩) (lSum c n) else lSum c n

/-- One more point is one more step. -/
theorem lSum_succ (c : Dev nD) (t : Fin cfg0.N) :
    lSum V c (t.val + 1) = lStep (grid0.coords t) (blk0 V c 0 t) (blk0 V c 1 t) (blk0 V c 2 t) (blk0 V c 3 t) (lSum V c t.val) := by
  rw [lSum, dif_pos t.isLt]

/-- The third result after the first `n` points: the steps folded. -/
def cSum (c : Dev nD) : ℕ → Vec F S1024x128 .f32
  | 0 => fun _ => Scalar.ofBits .f32 0#32
  | n + 1 => if h : n < cfg0.N then cStep (grid0.coords ⟨n, h⟩) (blk0 V c 1 ⟨n, h⟩) (cSum c n) else cSum c n

/-- One more point is one more step. -/
theorem cSum_succ (c : Dev nD) (t : Fin cfg0.N) :
    cSum V c (t.val + 1) = cStep (grid0.coords t) (blk0 V c 1 t) (cSum V c t.val) := by
  rw [cSum, dif_pos t.isLt]

/-- Region 0's proof data: inputs stay at their blocks, results are at the terms above, nothing is owed. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => sSum V c (t.val + 1)
    | ⟨5, _⟩ => lSum V c (t.val + 1)
    | ⟨6, _⟩ => cSum V c (t.val + 1)
  Φ _ := Pipeline.ΦA spec0 c
  q _ := fullShare
  owed _ := 0

/-- The arrays of region 0's data are its entry contents. -/
theorem data0_A (c : Dev nD) (w : Fin cfg0.W) : (data0 V c).A w = V c (Pipeline.arrRef spec0 w) := by
  dsimp only [data0]
/-- What the body leaves in window 0. -/
theorem after0_0 (c : Dev nD) (t : Fin cfg0.N) : (data0 V c).after 0 t = blk0 V c 0 t := by dsimp only [data0]
/-- What the body leaves in window 1. -/
theorem after0_1 (c : Dev nD) (t : Fin cfg0.N) : (data0 V c).after 1 t = blk0 V c 1 t := by dsimp only [data0]
/-- What the body leaves in window 2. -/
theorem after0_2 (c : Dev nD) (t : Fin cfg0.N) : (data0 V c).after 2 t = blk0 V c 2 t := by dsimp only [data0]
/-- What the body leaves in window 3. -/
theorem after0_3 (c : Dev nD) (t : Fin cfg0.N) : (data0 V c).after 3 t = blk0 V c 3 t := by dsimp only [data0]
/-- What the body leaves in window 4. -/
theorem after0_4 (c : Dev nD) (t : Fin cfg0.N) : (data0 V c).after 4 t = sSum V c (t.val + 1) := by dsimp only [data0]
/-- What the body leaves in window 5. -/
theorem after0_5 (c : Dev nD) (t : Fin cfg0.N) : (data0 V c).after 5 t = lSum V c (t.val + 1) := by dsimp only [data0]
/-- What the body leaves in window 6. -/
theorem after0_6 (c : Dev nD) (t : Fin cfg0.N) : (data0 V c).after 6 t = cSum V c (t.val + 1) := by dsimp only [data0]
/-- The body finds input window 0 at its block. -/
theorem before0_0 (c : Dev nD) (t : Fin cfg0.N) (d) : (data0 V c).before 0 t d = blk0 V c 0 t :=
  ((data0 V c).before_in_eq_fetched 0 rfl (fun _ => rfl) (fun _ _ _ => rfl)
    (fun t => by rw [after0_0]; unfold Dat.blockOf blk0; rw [data0_A]; try rfl) t d).trans
    (by unfold Dat.fetched Dat.blockOf blk0; rw [data0_A]; try rfl)
/-- The body finds input window 1 at its block. -/
theorem before0_1 (c : Dev nD) (t : Fin cfg0.N) (d) : (data0 V c).before 1 t d = blk0 V c 1 t :=
  ((data0 V c).before_in_eq_fetched 1 rfl (fun _ => rfl) (fun _ _ _ => rfl)
    (fun t => by rw [after0_1]; unfold Dat.blockOf blk0; rw [data0_A]; try rfl) t d).trans
    (by unfold Dat.fetched Dat.blockOf blk0; rw [data0_A]; try rfl)
/-- The body finds input window 2 at its block. -/
theorem before0_2 (c : Dev nD) (t : Fin cfg0.N) (d) : (data0 V c).before 2 t d = blk0 V c 2 t :=
  ((data0 V c).before_in_eq_fetched 2 rfl (fun _ => rfl) (fun _ _ _ => rfl)
    (fun t => by rw [after0_2]; unfold Dat.blockOf blk0; rw [data0_A]; try rfl) t d).trans
    (by unfold Dat.fetched Dat.blockOf blk0; rw [data0_A]; try rfl)
/-- The body finds input window 3 at its block. -/
theorem before0_3 (c : Dev nD) (t : Fin cfg0.N) (d) : (data0 V c).before 3 t d = blk0 V c 3 t :=
  ((data0 V c).before_in_eq_fetched 3 rfl (fun _ => rfl) (fun _ _ _ => rfl)
    (fun t => by rw [after0_3]; unfold Dat.blockOf blk0; rw [data0_A]; try rfl) t d).trans
    (by unfold Dat.fetched Dat.blockOf blk0; rw [data0_A]; try rfl)

/-- The grid coordinate of a point is its number. -/
theorem coord (t : Fin cfg0.N) : ((grid0.coords t) 0).val = t.val := by
  have h := Pipeline.Grid.coords_val (G := grid0) t 0 (S := 1) (B := 25) (by decide) (by decide)
  have := t.isLt; have := N_0
  rw [h, Nat.div_one, Nat.mod_eq_of_lt (by simp only [Pipeline.Cfg.N] at *; omega)]

/-- The step from what the body finds in window 4 is the fold one point on: at the first point the contents do not
    matter, at a later one they are what the point before left. -/
theorem sSum_step (c : Dev nD) (t : Fin cfg0.N) (d) :
    sStep (grid0.coords t) (blk0 V c 0 t) (blk0 V c 1 t) (blk0 V c 2 t) ((data0 V c).before 4 t d) = sSum V c (t.val + 1) := by
  rw [sSum_succ]
  by_cases h : t.val = 0
  · exact sStep_first _ (by rw [coord]; exact h) _ _ _ _ _
  · have hb : (data0 V c).before 4 t d = sSum V c t.val := by
      have hN : t.val < 25 := lt_of_lt_of_eq t.isLt N_0
      rw [(data0 V c).before_out_kept 4 rfl t h (by
        rw [Bool.eq_false_iff, ne_eq, flush0_4]; show ¬ (t.val - 1) % 25 = 24; omega) (fun _ => rfl) (fun _ _ => rfl) d, after0_4]
      show sSum V c (t.val - 1 + 1) = _
      rw [Nat.sub_add_cancel (Nat.pos_of_ne_zero h)]
    rw [hb]

/-- The step from what the body finds in window 5 is the fold one point on: at the first point the contents do not
    matter, at a later one they are what the point before left. -/
theorem lSum_step (c : Dev nD) (t : Fin cfg0.N) (d) :
    lStep (grid0.coords t) (blk0 V c 0 t) (blk0 V c 1 t) (blk0 V c 2 t) (blk0 V c 3 t) ((data0 V c).before 5 t d) = lSum V c (t.val + 1) := by
  rw [lSum_succ]
  by_cases h : t.val = 0
  · exact lStep_first _ (by rw [coord]; exact h) _ _ _ _ _ _
  · have hb : (data0 V c).before 5 t d = lSum V c t.val := by
      have hN : t.val < 25 := lt_of_lt_of_eq t.isLt N_0
      rw [(data0 V c).before_out_kept 5 rfl t h (by
        rw [Bool.eq_false_iff, ne_eq, flush0_5]; show ¬ (t.val - 1) % 25 = 24; omega) (fun _ => rfl) (fun _ _ => rfl) d, after0_5]
      show lSum V c (t.val - 1 + 1) = _
      rw [Nat.sub_add_cancel (Nat.pos_of_ne_zero h)]
    rw [hb]

/-- The step from what the body finds in window 6 is the fold one point on: at the first point the contents do not
    matter, at a later one they are what the point before left. -/
theorem cSum_step (c : Dev nD) (t : Fin cfg0.N) (d) :
    cStep (grid0.coords t) (blk0 V c 1 t) ((data0 V c).before 6 t d) = cSum V c (t.val + 1) := by
  rw [cSum_succ]
  by_cases h : t.val = 0
  · exact cStep_first _ (by rw [coord]; exact h) _ _ _
  · have hb : (data0 V c).before 6 t d = cSum V c t.val := by
      have hN : t.val < 25 := lt_of_lt_of_eq t.isLt N_0
      rw [(data0 V c).before_out_kept 6 rfl t h (by
        rw [Bool.eq_false_iff, ne_eq, flush0_6]; show ¬ (t.val - 1) % 25 = 24; omega) (fun _ => rfl) (fun _ _ => rfl) d, after0_6]
      show cSum V c (t.val - 1 + 1) = _
      rw [Nat.sub_add_cancel (Nat.pos_of_ne_zero h)]
    rw [hb]

/-- What the body is called with at point `t`. -/
def entry0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d)))

/-- What the body returns at point `t`. -/
def exit0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t))

/-- The body takes the one to the other. -/
theorem body0 (c : Dev nD) (t : Fin cfg0.N) :
    entry0 V c t ⊢ wp frame (wpE (defs₀ (F := F)) Variants.none c none) Set.univ (bodyAt0 t) (fun _ => exit0 V c t) := by
  unfold entry0 exit0 bodyAt0
  simp only [before0_0, before0_1, before0_2, before0_3]
  rw [show (data0 V c).Φ t.succ = (data0 V c).Φ t.castSucc from rfl,
    show (data0 V c).owesAt () t.succ = (data0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← sSum_step V c t d4, ← lSum_step V c t d5, ← cSum_step V c t d6]
  iapply (triple0 c Set.univ (grid0.coords t) _ _ _ _ _ _ _ _ _ _ _ _ _ _ (blk0 V c 0 t) (blk0 V c 1 t) (blk0 V c 2 t) (blk0 V c 3 t) _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The table's row at point `t`'s slots is the body. -/
theorem row0 (t : Fin cfg0.N) :
    defs₀ (F := F) .tc cfg0.body (cfg0.bodyArgs t (cfg0.slots t)) = bodyAt0 t := by
  unfold defs₀; rw [Defs.onTc_tc]

/-- The pipeline's obligation for region 0's body. -/
theorem obligation0 (c : Dev nD) : BodyObligation (data0 (F := F) V c) (defs₀ (F := F)) Variants.none () Set.univ := fun t => by
  rw [bigSep_W0, bigSep_W0, row0]
  exact triple_restated (body0 V c t) rfl .rfl fun _ => .rfl

/-! ## The proof data and the obligation of region 1, at entry contents `V` -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data: inputs stay at their blocks, results are at the terms above, nothing is owed. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => fin (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

/-- The arrays of region 1's data are its entry contents. -/
theorem data1_A (c : Dev nD) (w : Fin cfg1.W) : (data1 V c).A w = V c (Pipeline.arrRef spec1 w) := by
  dsimp only [data1]
/-- What the body leaves in window 0. -/
theorem after1_0 (c : Dev nD) (t : Fin cfg1.N) : (data1 V c).after 0 t = blk1 V c 0 t := by dsimp only [data1]
/-- What the body leaves in window 1. -/
theorem after1_1 (c : Dev nD) (t : Fin cfg1.N) : (data1 V c).after 1 t = blk1 V c 1 t := by dsimp only [data1]
/-- What the body leaves in window 2. -/
theorem after1_2 (c : Dev nD) (t : Fin cfg1.N) : (data1 V c).after 2 t = blk1 V c 2 t := by dsimp only [data1]
/-- What the body leaves in window 3. -/
theorem after1_3 (c : Dev nD) (t : Fin cfg1.N) : (data1 V c).after 3 t = blk1 V c 3 t := by dsimp only [data1]
/-- What the body leaves in window 4. -/
theorem after1_4 (c : Dev nD) (t : Fin cfg1.N) : (data1 V c).after 4 t = blk1 V c 4 t := by dsimp only [data1]
/-- What the body leaves in window 5. -/
theorem after1_5 (c : Dev nD) (t : Fin cfg1.N) : (data1 V c).after 5 t = blk1 V c 5 t := by dsimp only [data1]
/-- What the body leaves in window 6. -/
theorem after1_6 (c : Dev nD) (t : Fin cfg1.N) : (data1 V c).after 6 t = blk1 V c 6 t := by dsimp only [data1]
/-- What the body leaves in window 7. -/
theorem after1_7 (c : Dev nD) (t : Fin cfg1.N) : (data1 V c).after 7 t = fin (blk1 V c 0 t) (blk1 V c 1 t) (blk1 V c 2 t) (blk1 V c 3 t) (blk1 V c 4 t) (blk1 V c 5 t) (blk1 V c 6 t) := by dsimp only [data1]
/-- The body finds input window 0 at its block. -/
theorem before1_0 (c : Dev nD) (t : Fin cfg1.N) (d) : (data1 V c).before 0 t d = blk1 V c 0 t :=
  ((data1 V c).before_in_eq_fetched 0 rfl (fun _ => rfl) (fun _ _ _ => rfl)
    (fun t => by rw [after1_0]; unfold Dat.blockOf blk1; rw [data1_A]; try rfl) t d).trans
    (by unfold Dat.fetched Dat.blockOf blk1; rw [data1_A]; try rfl)
/-- The body finds input window 1 at its block. -/
theorem before1_1 (c : Dev nD) (t : Fin cfg1.N) (d) : (data1 V c).before 1 t d = blk1 V c 1 t :=
  ((data1 V c).before_in_eq_fetched 1 rfl (fun _ => rfl) (fun _ _ _ => rfl)
    (fun t => by rw [after1_1]; unfold Dat.blockOf blk1; rw [data1_A]; try rfl) t d).trans
    (by unfold Dat.fetched Dat.blockOf blk1; rw [data1_A]; try rfl)
/-- The body finds input window 2 at its block. -/
theorem before1_2 (c : Dev nD) (t : Fin cfg1.N) (d) : (data1 V c).before 2 t d = blk1 V c 2 t :=
  ((data1 V c).before_in_eq_fetched 2 rfl (fun _ => rfl) (fun _ _ _ => rfl)
    (fun t => by rw [after1_2]; unfold Dat.blockOf blk1; rw [data1_A]; try rfl) t d).trans
    (by unfold Dat.fetched Dat.blockOf blk1; rw [data1_A]; try rfl)
/-- The body finds input window 3 at its block. -/
theorem before1_3 (c : Dev nD) (t : Fin cfg1.N) (d) : (data1 V c).before 3 t d = blk1 V c 3 t :=
  ((data1 V c).before_in_eq_fetched 3 rfl (fun _ => rfl) (fun _ _ _ => rfl)
    (fun t => by rw [after1_3]; unfold Dat.blockOf blk1; rw [data1_A]; try rfl) t d).trans
    (by unfold Dat.fetched Dat.blockOf blk1; rw [data1_A]; try rfl)
/-- The body finds input window 4 at its block. -/
theorem before1_4 (c : Dev nD) (t : Fin cfg1.N) (d) : (data1 V c).before 4 t d = blk1 V c 4 t :=
  ((data1 V c).before_in_eq_fetched 4 rfl (fun _ => rfl) (fun _ _ _ => rfl)
    (fun t => by rw [after1_4]; unfold Dat.blockOf blk1; rw [data1_A]; try rfl) t d).trans
    (by unfold Dat.fetched Dat.blockOf blk1; rw [data1_A]; try rfl)
/-- The body finds input window 5 at its block. -/
theorem before1_5 (c : Dev nD) (t : Fin cfg1.N) (d) : (data1 V c).before 5 t d = blk1 V c 5 t :=
  ((data1 V c).before_in_eq_fetched 5 rfl (fun _ => rfl) (fun _ _ _ => rfl)
    (fun t => by rw [after1_5]; unfold Dat.blockOf blk1; rw [data1_A]; try rfl) t d).trans
    (by unfold Dat.fetched Dat.blockOf blk1; rw [data1_A]; try rfl)
/-- The body finds input window 6 at its block. -/
theorem before1_6 (c : Dev nD) (t : Fin cfg1.N) (d) : (data1 V c).before 6 t d = blk1 V c 6 t :=
  ((data1 V c).before_in_eq_fetched 6 rfl (fun _ => rfl) (fun _ _ _ => rfl)
    (fun t => by rw [after1_6]; unfold Dat.blockOf blk1; rw [data1_A]; try rfl) t d).trans
    (by unfold Dat.fetched Dat.blockOf blk1; rw [data1_A]; try rfl)

/-- What the body is called with at point `t`. -/
def entry1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d))
    ∗ (∃ d, owns (c : Thread nD τ) (st1_7 t) fullShare ((data1 V c).before 7 t d)))

/-- What the body returns at point `t`. -/
def exit1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ owns (c : Thread nD τ) (st1_6 t) fullShare ((data1 V c).after 6 t)
    ∗ owns (c : Thread nD τ) (st1_7 t) fullShare ((data1 V c).after 7 t))

/-- The body takes the one to the other. -/
theorem body1 (c : Dev nD) (t : Fin cfg1.N) :
    entry1 V c t ⊢ wp frame (wpE (defs₀ (F := F)) Variants.none c none) Set.univ (bodyAt1 t) (fun _ => exit1 V c t) := by
  unfold entry1 exit1 bodyAt1
  simp only [before1_0, before1_1, before1_2, before1_3, before1_4, before1_5, before1_6]
  rw [show (data1 V c).Φ t.succ = (data1 V c).Φ t.castSucc from rfl,
    show (data1 V c).owesAt () t.succ = (data1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (triple1 c Set.univ (grid1.coords t) _ _ _ _ _ _ _ _ _ _ _ _ _ _ _ _ (blk1 V c 0 t) (blk1 V c 1 t) (blk1 V c 2 t) (blk1 V c 3 t) (blk1 V c 4 t) (blk1 V c 5 t) (blk1 V c 6 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The table's row at point `t`'s slots is the body. -/
theorem row1 (t : Fin cfg1.N) :
    defs₀ (F := F) .tc cfg1.body (cfg1.bodyArgs t (cfg1.slots t)) = bodyAt1 t := by
  unfold defs₀; rw [Defs.onTc_tc]

/-- The pipeline's obligation for region 1's body. -/
theorem obligation1 (c : Dev nD) : BodyObligation (data1 (F := F) V c) (defs₀ (F := F)) Variants.none () Set.univ := fun t => by
  rw [bigSep_W1, bigSep_W1, row1]
  exact triple_restated (body1 V c t) rfl .rfl fun _ => .rfl

end Regions

end Cert.KernelIdeal.Walk

end
-- ==== Proof.KernelIdealRun.lean ====
/- The run of KernelIdeal: its two kernels and the host operations around them as segments, the buffers at each boundary, and
   what every final state holds. -/
module

public import proofs.«01_k».proof.Proof.KernelIdealBodies
public import Idealize.ShloMosaic.Lib.Pipeline.RegionsLoop
public import Idealize.ShloMosaic.Lib.Pipeline.FrameSuffix
public import Idealize.ShloMosaic.Lib.Ring

@[expose] public section

-- the accesses are rectangles of the arrays' own extents, whose membership the elaborator looks through coordinate by coordinate
set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four argument arrays. -/
abbrev argRefs : List (Ref sig .tc) := [main_arg0, main_arg1, main_arg2, main_arg3]

/-- The host operations before the kernels allocate nothing. -/
theorem hostOps0_fresh : (hostOps0 : List (HloOp τ sig (Elt F))).Forall fun op => op.fresh = ∅ := by
  simp only [List.Forall]; repeat' constructor
/-- What the host operations before the kernels write, in order. -/
abbrev hostOps0_W : List (Ref sig .tc) := [main_cst, main_v0, main_cst_0, main_v1, main_v2, main_v3, main_v4, main_v5, main_v6, main_v7, main_v8, main_v9]
/-- They write only those arrays. -/
theorem hostOps0_writes : (hostOps0 : List (HloOp τ sig (Elt F))).Forall fun op => op.writes ⊆ (hostOps0_W.map (Proc.devRef (τ := τ) .tc)).toFinset :=
  StableHlo.forall_writes_sub_of_map rfl
/-- None of those is an argument. -/
theorem hostOps0_args : ∀ a ∈ argRefs, a ∉ hostOps0_W := ListAll.forall_mem_of_all_decide (by decide +kernel)

/-- The host operation after the kernels allocates nothing. -/
theorem hostOps2_fresh : (hostOps2 : List (HloOp τ sig (Elt F))).Forall fun op => op.fresh = ∅ := by
  simp only [List.Forall]; repeat' constructor
/-- What it writes: the result. -/
abbrev hostOps2_W : List (Ref sig .tc) := [main_v12]
/-- It writes only that. -/
theorem hostOps2_writes : (hostOps2 : List (HloOp τ sig (Elt F))).Forall fun op => op.writes ⊆ (hostOps2_W.map (Proc.devRef (τ := τ) .tc)).toFinset :=
  StableHlo.forall_writes_sub_of_map rfl
/-- The result is not an argument. -/
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
/-- The arguments at launch. -/
theorem W0_args (c : Dev nD) : ∀ a ∈ argRefs, W0 m ρ c (Proc.devRef .tc a) = m ((c : Thread nD τ).loc a) := fun _ _ => rfl
/-- The buffers when the first kernel is entered. -/
abbrev W1 : Dev nD → Valuation τ sig (Elt F) := fun c => StableHlo.after hostOps0 (W0 m ρ c)
/-- An array the host operations do not write is as at launch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched when the first kernel is entered. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same buffers, by reference. -/
abbrev V1 : (c : Dev nD) → (b : Ref sig .tc) → Buf (Elt F) ((c : Thread nD τ).loc b) := fun c b => W1 m ρ c b
/-- The buffers between the two kernels. -/
def W2 (c : Dev nD) : Valuation τ sig (Elt F) :=
  Pipeline.withArrays spec0 c (W1 m ρ c) fun w => (data0 (V1 m ρ) c).arrAt w cfg0.N
/-- The first kernel's arrays are at what its pipeline leaves. -/
theorem W2_arr (c : Dev nD) (w : Fin cfg0.W) :
    W2 m ρ c (Proc.devRef .tc (Pipeline.arrRef spec0 w)) = (data0 (V1 m ρ) c).arrAt w cfg0.N := by
  unfold W2; exact Pipeline.withArrays_arr spec0 launch0.win.arr_inj c _ _ w
/-- Any other buffer is as before it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- So is any array that is not one of its results. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((data0 (V1 m ρ) c).arrAt_in w (h w rfl) _).trans (data0_A (V1 m ρ) c w))
  · exact W2_of_ne m ρ c r fun w e => hw ⟨w, e⟩
/-- No argument is a result of the first kernel. -/
theorem argsIn0 : ∀ a ∈ argRefs, ∀ w : Fin cfg0.W, Pipeline.arrRef spec0 w = a → (cfg0.win w).isOut = false :=
  ListAll.forall_mem_of_all_decide (by decide +kernel)
/-- The arguments are as launched between the kernels. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same buffers, by reference. -/
abbrev V2 : (c : Dev nD) → (b : Ref sig .tc) → Buf (Elt F) ((c : Thread nD τ).loc b) := fun c b => W2 m ρ c b
/-- What the first kernel's pipeline leaves, read the other way. -/
theorem hF0 (c : Dev nD) (w : Fin cfg0.W) : (data0 (V1 m ρ) c).arrAt w cfg0.N = V2 m ρ c (Pipeline.arrRef spec0 w) :=
  (W2_arr m ρ c w).symm
/-- Buffers outside the first kernel's arrays are unchanged. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the second kernel. -/
def W3 (c : Dev nD) : Valuation τ sig (Elt F) :=
  Pipeline.withArrays spec1 c (W2 m ρ c) fun w => (data1 (V2 m ρ) c).arrAt w cfg1.N
/-- The second kernel's arrays are at what its pipeline leaves. -/
theorem W3_arr (c : Dev nD) (w : Fin cfg1.W) :
    W3 m ρ c (Proc.devRef .tc (Pipeline.arrRef spec1 w)) = (data1 (V2 m ρ) c).arrAt w cfg1.N := by
  unfold W3; exact Pipeline.withArrays_arr spec1 launch1.win.arr_inj c _ _ w
/-- Any other buffer is as before it. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- So is any array that is not its result. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((data1 (V2 m ρ) c).arrAt_in w (h w rfl) _).trans (data1_A (V2 m ρ) c w))
  · exact W3_of_ne m ρ c r fun w e => hw ⟨w, e⟩
/-- No argument is a result of the second kernel. -/
theorem argsIn1 : ∀ a ∈ argRefs, ∀ w : Fin cfg1.W, Pipeline.arrRef spec1 w = a → (cfg1.win w).isOut = false :=
  ListAll.forall_mem_of_all_decide (by decide +kernel)
/-- The arguments are as launched after the second kernel. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same buffers, by reference. -/
abbrev V3 : (c : Dev nD) → (b : Ref sig .tc) → Buf (Elt F) ((c : Thread nD τ).loc b) := fun c b => W3 m ρ c b
/-- What the second kernel's pipeline leaves, read the other way. -/
theorem hF1 (c : Dev nD) (w : Fin cfg1.W) : (data1 (V2 m ρ) c).arrAt w cfg1.N = V3 m ρ c (Pipeline.arrRef spec1 w) :=
  (W3_arr m ρ c w).symm
/-- Buffers outside the second kernel's arrays are unchanged. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers at the return. -/
abbrev W4 : Dev nD → Valuation τ sig (Elt F) := fun c => StableHlo.after hostOps2 (W3 m ρ c)
/-- An array the last host operation does not write is as the second kernel leaves it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- The arguments are as launched at the return. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-- No pipeline reads a prefetched table. -/
abbrev adm : (p : Fin 2) → (pcfgs (F := F) p).Adm := fun p => (cfgs p).toPCfg_adm
/-- Each pipeline's data at its own entry contents. -/
def pdats : (p : Fin 2) → (c : Dev nD) → Dat τ (Elt F) Unit ℕ (UR sig nD τ) ℕ (Pipeline.pin (pcfgs (F := F)) adm p) c
  | ⟨0, _⟩ => fun c => data0 (V1 m ρ) c
  | ⟨1, _⟩ => fun c => data1 (V2 m ρ) c
/-- No loop variants are used. -/
abbrev 𝒱₀ : Variants := Variants.none
/-- No semaphore is assigned a level, -/
abbrev L : GSem nD τ sig → Finset Unit := fun _ => ∅
/-- so every level is zero. -/
abbrev lv : GSem nD τ sig → Unit → ℕ := fun _ _ => 0
/-- What rides along through every segment: the generator register, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped buffer is among those the thread holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the thread holds at the return. -/
abbrev Tₙ (c : Dev nD) : sProp 𝕄 := iprop(StableHlo.held (c : Thread nD τ) (Pipeline.ucRefs τ sig) (W4 m ρ c) ∗ ∃ r, prngReg c r)

-- unification here may unfold plain definitions in a metavariable's type
set_option backward.isDefEq.respectTransparency.types false in
/-- The first kernel as a segment, from the buffers at its entry to those at its exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (data0_A (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification here may unfold plain definitions in a metavariable's type
set_option backward.isDefEq.respectTransparency.types false in
/-- The second kernel as a segment, from the buffers at its entry to those at its exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (data1_A (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of its segments. -/
theorem main_run (c : Dev nD) : main (F := F) c = Pipeline.Seg.run (segs m ρ) := (main_chain c).trans (by chain_rfl)

/-- Every semaphore of the core is scoped. -/
theorem no_unscoped : ∀ sm : SemLoc sig, sm.isScoped .tc = true := by decide

-- unification here may unfold plain definitions in a metavariable's type
set_option backward.isDefEq.respectTransparency.types false in
/-- The program runs: it terminates, nothing faults, the arguments are as launched, the result is the one read off the
    buffers at the return, and every semaphore counter is zero. -/
theorem run : θ_run defs (onTc (τ := τ) (main (F := F))) ⟨m, fun _ => 0, ρ⟩ (fun r => (∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v12 (by decide)),
       (h c _ (mem_uc main_arg0 (by decide))).trans (W4_args m ρ c main_arg0 (by decide)),
       (h c _ (mem_uc main_arg1 (by decide))).trans (W4_args m ρ c main_arg1 (by decide)),
       (h c _ (mem_uc main_arg2 (by decide))).trans (W4_args m ρ c main_arg2 (by decide)),
       (h c _ (mem_uc main_arg3 (by decide))).trans (W4_args m ρ c main_arg3 (by decide))⟩), funext fun g => hz g (.inr (no_unscoped g.2))⟩)

end Cert.KernelIdeal.Walk

end
-- ==== Proof.Claims.lean ====
/- The frames of the three programs, and the named constants of the second: each claim beside the value claim. -/
module

public import proofs.«01_k».proof.Defs
public import proofs.«01_k».proof.Proof.KernelRun
public import proofs.«01_k».proof.Proof.KernelIdealRun
public import proofs.«01_k».proof.Proof.Gen.Pre_inputs_ok
public import proofs.«01_k».proof.Proof.Gen.ReferenceIdeal
public import proofs.«01_k».proof.Proof.Gen.ReferenceIdeal.Run
public import Idealize.ShloMosaic.Lib.Quiescent

@[expose] public section

noncomputable section

namespace Cert.Proof.Claims

open Idealize.ShloMosaic Idealize.ShloMosaic.TcCoe Idealize.SL.Sem

/-- The kernel runs, leaves its arguments as they were and ends with every counter at zero. -/
theorem frame_p : Cert.quiescent_Kernel := fun m ρ _ =>
  (θ_run Cert.Kernel.defs _ _).mono (fun _ h => ⟨fun c => (h.1 c).2, h.2⟩) (Cert.Kernel.Walk.run (F := Bits) m ρ)

/-- The kernel over the extended reals runs, leaves its arguments as they were and ends with every counter at zero. -/
theorem frame_pi : Cert.quiescent_KernelIdeal := fun m ρ _ =>
  (θ_run Cert.KernelIdeal.defs _ _).mono (fun _ h => ⟨fun c => (h.1 c).2, h.2⟩)
    (Cert.KernelIdeal.Walk.run (F := Ideal) m ρ)

/-- The same of inputs that satisfy the precondition. -/
theorem frame_pi_pre : Cert.quiescent_KernelIdeal_pre_inputs_ok := fun m ρ _ => frame_pi m ρ trivial

/-- The reference runs, leaves its arguments as they were and ends with every counter at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of inputs that satisfy the precondition. -/
theorem frame_ri_pre : Cert.quiescent_ReferenceIdeal_pre_inputs_ok := fun m ρ _ => frame_ri m ρ trivial

/-- The table of the named constants holds, for each name, the real the idealized kernel reads there. -/
theorem preserves : Cert.preserves_Kernel_KernelIdeal :=
  ⟨IdealRules.named_const.statement Cert.KernelIdeal.κ "log2e" .f32 0x3FB8AA3B#32 _ rfl,
    IdealRules.named_const.statement Cert.KernelIdeal.κ "eps" .f32 0x3651BA72#32 _ rfl,
    IdealRules.named_const.statement Cert.KernelIdeal.κ "entropy" .f32 0xBFAE63F8#32 _ rfl,
    IdealRules.named_const.statement Cert.KernelIdeal.κ "conf_minus_eps" .f32 0x3F666632#32 _ rfl⟩

end Cert.Proof.Claims

end
-- ==== Proof.Loss.lean ====
/- The loss as a real number: label-smoothed cross entropy over rows of logits, in the two forms the programs compute it. -/
module

public import Mathlib.Analysis.SpecialFunctions.Log.Basic
public import Mathlib.Analysis.SpecialFunctions.Pow.Real
public import Mathlib.Data.EReal.Operations
public import Mathlib.Logic.Equiv.Fin.Basic
public import Mathlib.Algebra.BigOperators.Fin

@[expose] public section

noncomputable section

namespace Cert.Loss

open Finset

/-- A finite sum of reals, read as an extended real, is the sum of its terms so read. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logit of token `v` in row `n`. -/
def logit {N K V : ℕ} (X : Fin N → Fin K → ℝ) (W : Fin K → Fin V → ℝ) (B : Fin V → ℝ) (n : Fin N) (v : Fin V) : ℝ :=
  ∑ k, X n k * W k v + B v

/-- The logarithm of the sum of the exponentials. -/
def lse {V : ℕ} (l : Fin V → ℝ) : ℝ := Real.log (∑ v, Real.exp (l v))

/-- The smoothed label of token `v` where the true token is `g`: nothing in a padded row, nine tenths at the true token,
    nothing at the padding token, and an equal share of one tenth elsewhere. -/
def target {V : ℕ} [NeZero V] (g v : Fin V) : ℝ :=
  if g = 0 then 0 else if v = g then 9 / 10 else if v = 0 then 0 else 1 / 319980

/-- A row's loss, as the reference sums it: over every token, `t log t - t · score`. -/
def rowSum {V : ℕ} [NeZero V] (l : Fin V → ℝ) (g : Fin V) : ℝ :=
  ∑ v, (target g v * Real.log (target g v) - target g v * (l v - lse l))

/-- The constant part of a row's loss: the sum of `t log t`. -/
def entropy : ℝ := 1 / 10 * Real.log (129140163 / 106660000000000)

/-- A row's loss, as the kernel computes it, from the sum of the logits, the padding token's, the true token's and the
    logarithm of the sum of the exponentials. -/
def rowClosed (s l0 lg L : ℝ) : ℝ :=
  entropy - 1 / 319980 * ((s - 32000 * L) - (l0 - L)) - 287981 / 319980 * (lg - L)

theorem entropy_eq :
    entropy = 31998 * (1 / 319980 * Real.log (1 / 319980)) + 9 / 10 * Real.log (9 / 10) := by
  have h : (129140163 / 106660000000000 : ℝ) = 1 / 319980 * (9 / 10) ^ 9 := by norm_num
  rw [entropy, h, Real.log_mul (by norm_num) (by norm_num), Real.log_pow]
  push_cast
  ring

/-- A sum whose terms are `F v` but at two places. -/
theorem sum_two_places {V : ℕ} (F G : Fin V → ℝ) (a b : Fin V) (hab : a ≠ b)
    (h : ∀ v, v ≠ a → v ≠ b → G v = F v) : ∑ v, G v = ∑ v, F v + (G a - F a) + (G b - F b) := by
  have e : ∀ v, G v = F v + (if v = a then G a - F a else 0) + (if v = b then G b - F b else 0) := by
    intro v
    by_cases ha : v = a
    · subst ha; simp [hab]
    · by_cases hb : v = b
      · subst hb; simp [ha]
      · simp [ha, hb, h v ha hb]
  rw [Finset.sum_congr rfl fun v _ => e v, Finset.sum_add_distrib, Finset.sum_add_distrib]
  simp

/-- The two forms of a row's loss agree: of a padded row both are zero, of another both are the smoothed cross entropy. -/
theorem rowSum_eq (l : Fin 32000 → ℝ) (g : Fin 32000) :
    rowSum l g = if g = 0 then 0 else rowClosed (∑ v, l v) (l 0) (l g) (lse l) := by
  unfold rowSum target
  split_ifs with hg
  · simp
  · rw [sum_two_places
      (fun v => 1 / 319980 * Real.log (1 / 319980) - 1 / 319980 * (l v - lse l)) _ g 0 hg
      (fun v h1 h2 => by simp only [if_neg h1, if_neg h2])]
    simp only [↓reduceIte, if_neg (Ne.symm hg)]
    rw [Finset.sum_sub_distrib, ← Finset.mul_sum, ← Finset.mul_sum, Finset.sum_sub_distrib]
    simp only [Finset.sum_const, Finset.card_univ, Fintype.card_fin, nsmul_eq_mul]
    rw [rowClosed, entropy_eq]
    push_cast
    ring

/-- The softmax's logarithm does not change when a number is taken from every logit. -/
theorem score_shift {V : ℕ} [NeZero V] (l : Fin V → ℝ) (m : ℝ) (v : Fin V) :
    (l v - m) - Real.log (∑ u, Real.exp (l u - m)) = l v - lse l := by
  have hp : 0 < ∑ u, Real.exp (l u) :=
    Finset.sum_pos (fun u _ => Real.exp_pos _) ⟨0, Finset.mem_univ _⟩
  have h : ∑ u, Real.exp (l u - m) = (∑ u, Real.exp (l u)) * Real.exp (-m) := by
    rw [Finset.sum_mul]
    exact Finset.sum_congr rfl fun u _ => by rw [sub_eq_add_neg, Real.exp_add]
  rw [h, Real.log_mul hp.ne' (Real.exp_pos _).ne', Real.log_exp, lse]
  ring

theorem log_two_ne : Real.log 2 ≠ 0 := (Real.log_pos (by norm_num)).ne'

/-- Two to the power `t / log 2` is the exponential of `t`. -/
theorem two_rpow (t : ℝ) : Real.rpow 2 (t * (1 / Real.log 2)) = Real.exp t := by
  show (2 : ℝ) ^ (t * (1 / Real.log 2)) = _
  rw [Real.rpow_def_of_pos (by norm_num)]
  congr 1
  field_simp [log_two_ne]

/-- Logits of inputs scaled by `c` are the logits times `c`. -/
theorem logit_scaled {N K V : ℕ} (X : Fin N → Fin K → ℝ) (W : Fin K → Fin V → ℝ) (B : Fin V → ℝ) (c : ℝ) (n : Fin N)
    (v : Fin V) : ∑ k, X n k * c * W k v + B v * c = logit X W B n v * c := by
  rw [logit, add_mul, Finset.sum_mul]
  congr 1
  exact Finset.sum_congr rfl fun k _ => by ring

/-- A row times the column sums, plus the sum of the biases, is the sum of the logits. -/
theorem sum_logit {N K V : ℕ} (X : Fin N → Fin K → ℝ) (W : Fin K → Fin V → ℝ) (B : Fin V → ℝ) (c : ℝ) (n : Fin N) :
    ∑ k, X n k * c * ∑ v, W k v + ∑ v, B v * c = (∑ v, logit X W B n v) * c := by
  rw [Finset.sum_mul, Finset.sum_congr rfl fun v _ => (logit_scaled X W B c n v).symm, Finset.sum_add_distrib]
  congr 1
  rw [Finset.sum_comm]
  exact Finset.sum_congr rfl fun k _ => by rw [Finset.mul_sum]

/-! ## The tokens by block, group and lane -/

/-- Token `1280 j + 128 c + p`: lane `p` of group `c` of block `j`. -/
def tok (j : Fin 25) (c : Fin 10) (p : Fin 128) : Fin 32000 := ⟨1280 * j.val + 128 * c.val + p.val, by omega⟩

/-- What one block adds to lane `p`: its ten groups' values there. -/
def laneBlock (f : Fin 32000 → ℝ) (j : Fin 25) (p : Fin 128) : ℝ := ∑ c, f (tok j c p)

/-- Lane `p` after the first `n` blocks. -/
def lanePart (f : Fin 32000 → ℝ) (p : Fin 128) : ℕ → ℝ
  | 0 => 0
  | n + 1 => if h : n < 25 then lanePart f p n + laneBlock f ⟨n, h⟩ p else lanePart f p n

theorem lanePart_eq (f : Fin 32000 → ℝ) (p : Fin 128) (n : ℕ) (hn : n ≤ 25) :
    lanePart f p n = ∑ j : Fin n, laneBlock f ⟨j.val, by omega⟩ p := by
  induction n with
  | zero => simp [lanePart]
  | succ n ih =>
    rw [lanePart, dif_pos (by omega), ih (by omega), Fin.sum_univ_castSucc]
    rfl

/-- The tokens are the triples of a block, a group and a lane. -/
def tokEquiv : (Fin 25 × Fin 10) × Fin 128 ≃ Fin 32000 where
  toFun t := tok t.1.1 t.1.2 t.2
  invFun v := ((⟨v.val / 1280, by omega⟩, ⟨v.val % 1280 / 128, by omega⟩), ⟨v.val % 128, by omega⟩)
  left_inv := by
    rintro ⟨⟨j, c⟩, p⟩
    simp only [tok, Prod.mk.injEq, Fin.ext_iff]
    omega
  right_inv v := by
    simp only [tok, Fin.ext_iff]
    omega

/-- Every token is in one lane: the lanes after the last block add up to the sum over the tokens. -/
theorem sum_lanePart (f : Fin 32000 → ℝ) : ∑ p, lanePart f p 25 = ∑ v, f v := by
  rw [← Equiv.sum_comp tokEquiv f, Fintype.sum_prod_type_right, Finset.sum_congr rfl fun p _ => lanePart_eq f p 25 le_rfl]
  refine Finset.sum_congr rfl fun p _ => ?_
  rw [Fintype.sum_prod_type]
  rfl

end Cert.Loss

end
-- ==== Proof.StepValue.lean ====
/- One block of the first kernel over the extended reals: what a step adds to each lane, as real numbers. -/
module

public import proofs.«01_k».proof.Proof.KernelIdealBodies
public import proofs.«01_k».proof.Proof.Loss
public import Idealize.ShloMosaic.Lib.Pointwise

@[expose] public section

set_option maxRecDepth 16384

noncomputable section

namespace Cert.KernelIdeal.Walk

open Cert.KernelIdeal Cert.KernelIdeal.Gen Cert.Loss
open Idealize.ShloMosaic Idealize.ShloMosaic.TcCoe

/-- The scaled logits of a block: at row `r` and column `p`, the product's sum plus the bias. -/
theorem pay1_apply (w : Vec Ideal S1024x1280 .f32) (x : Vec Ideal S4096x1024 .bf16) (b : Vec Ideal S1x1280 .f32)
    (r : Fin 4096) (p : Fin 1280) (xr : Fin 1024 → ℝ) (wr : Fin 1024 → ℝ) (br : ℝ)
    (hx : ∀ k, x (ix2 r k) = (xr k : EReal)) (hw : ∀ k, w (ix2 k p) = (wr k : EReal)) (hb : b (ix2 0 p) = (br : EReal)) :
    k0_pay1 w x b (ix2 r p) = ((∑ k, xr k * wr k + br : ℝ) : EReal) := by
  pointwise [k0_pay1]
  simp only [hx, hw, hb, ← EReal.coe_mul, ← coe_sum, ← EReal.coe_add]

/-- The exponentials of a block: two to the power of the scaled logit. -/
theorem pay2_apply (w : Vec Ideal S1024x1280 .f32) (x : Vec Ideal S4096x1024 .bf16) (b : Vec Ideal S1x1280 .f32)
    (r : Fin 4096) (p : Fin 1280) (y : ℝ) (hy : k0_pay1 w x b (ix2 r p) = ((y * (1 / Real.log 2) : ℝ) : EReal)) :
    k0_pay2 w x b (ix2 r p) = (Real.exp y : EReal) := by
  have h : k0_pay2 w x b (ix2 r p) = Ideal.exp2 (k0_pay1 w x b (ix2 r p)) := rfl
  rw [h, hy, Ideal.exp2_coe, two_rpow]

/-- The first word is not one after the first point. -/
theorem first_pos (i : grid0.Coords) (h : (i 0).val ≠ 0) : first i ≠ 1#1 := by
  have hi : (i 0).val < 25 := (i 0).isLt
  unfold first
  generalize (i 0).val = n at *
  interval_cases n <;> first | exact absurd rfl h | decide

/-- The label's column of a block: the scaled logit there, zero in the other columns. -/
theorem pay3_apply (i : grid0.Coords) (w : Vec Ideal S1024x1280 .f32) (x : Vec Ideal S4096x1024 .bf16)
    (b : Vec Ideal S1x1280 .f32) (g : Vec Ideal S4096x1 .i32) (r : Fin 4096) (p : Fin 1280) (y : ℝ) (gr : Fin 32000)
    (hg : g (ix2 r 0) = BitVec.ofNat 32 gr.val) (hy : k0_pay1 w x b (ix2 r p) = (y : EReal)) :
    k0_pay3 i w x b g (ix2 r p) = ((if 1280 * (i 0).val + p.val = gr.val then y else 0 : ℝ) : EReal) := by
  have hi : (i 0).val < 25 := (i 0).isLt
  pointwise [k0_pay3]
  rw [hg, hy]
  have hp := p.isLt
  have hgr := gr.isLt
  have hw32 : (BitVec.ofNat 32 p.val = IntOp.subi (BitVec.ofNat 32 gr.val) (Scalar.muli (BitVec.ofNat 32 (i 0).val) 1280#32))
      ↔ 1280 * (i 0).val + p.val = gr.val := by
    show BitVec.ofNat 32 p.val = BitVec.ofNat 32 gr.val - BitVec.ofNat 32 (i 0).val * 1280#32 ↔ _
    rw [← BitVec.toNat_inj, BitVec.toNat_sub, BitVec.toNat_mul, BitVec.toNat_ofNat, BitVec.toNat_ofNat, BitVec.toNat_ofNat,
      BitVec.toNat_ofNat]
    omega
  rw [WordCmp.cmpi_eq_eq, WordCmp.select_ofBool]
  by_cases h : 1280 * (i 0).val + p.val = gr.val
  · rw [if_pos h, if_pos (by simpa using hw32.mpr h)]
  · rw [if_neg h, if_neg (by simpa using fun e => h (hw32.mp e))]
    rfl

/-- Ten groups of a block, added in order. -/
theorem laneBlock_ten (f : Fin 32000 → ℝ) (j : Fin 25) (l : Fin 128) :
    laneBlock f j l = f (tok j 0 l) + f (tok j 1 l) + f (tok j 2 l) + f (tok j 3 l) + f (tok j 4 l) + f (tok j 5 l)
      + f (tok j 6 l) + f (tok j 7 l) + f (tok j 8 l) + f (tok j 9 l) := by
  simp only [laneBlock, Fin.sum_univ_castSucc, Fin.sum_univ_zero, zero_add]
  rfl

/-- Column `q` of block `j`. -/
def col (j : Fin 25) (q : Fin 1280) : Fin 32000 := ⟨1280 * j.val + q.val, by omega⟩

/-- Column `128 c + l` of a block is lane `l` of its group `c`. -/
theorem col_tok (j : Fin 25) (c : Fin 10) (l : Fin 128) (q : Fin 1280) (h : q.val = 128 * c.val + l.val) :
    col j q = tok j c l := by
  simp only [col, tok, Fin.ext_iff]
  omega

/-- What a step leaves in a lane, as a real: the block's sum, added to what was there but at the first point. -/
def laneStep (f : Fin 32000 → ℝ) (j : Fin 25) (l : Fin 128) (P : ℝ) : ℝ :=
  if j.val = 0 then laneBlock f j l else P + laneBlock f j l

/-- The ten columns of a block that are in lane `l`. -/
theorem lane_cols (j : Fin 25) (l : Fin 128) :
    (∀ h, col j ⟨l.val, h⟩ = tok j 0 l) ∧ (∀ h, col j ⟨128 + l.val, h⟩ = tok j 1 l) ∧ (∀ h, col j ⟨256 + l.val, h⟩ = tok j 2 l) ∧
      (∀ h, col j ⟨384 + l.val, h⟩ = tok j 3 l) ∧ (∀ h, col j ⟨512 + l.val, h⟩ = tok j 4 l) ∧ (∀ h, col j ⟨640 + l.val, h⟩ = tok j 5 l) ∧
      (∀ h, col j ⟨768 + l.val, h⟩ = tok j 6 l) ∧ (∀ h, col j ⟨896 + l.val, h⟩ = tok j 7 l) ∧ (∀ h, col j ⟨1024 + l.val, h⟩ = tok j 8 l) ∧ (∀ h, col j ⟨1152 + l.val, h⟩ = tok j 9 l) := by
  have hl := l.isLt
  refine ⟨?_, ?_, ?_, ?_, ?_, ?_, ?_, ?_, ?_, ?_⟩ <;>
    exact fun h => Fin.ext (by simp only [col, tok]; norm_num [Fin.val_ofNat] <;> omega)

/-- The branch on the first point. -/
theorem select_first (i : grid0.Coords) (j : Fin 25) (hj : (i 0).val = j.val) (a b : EReal) :
    Scalar.select (first i) a b = if j.val = 0 then a else b := by
  by_cases h : j.val = 0
  · rw [if_pos h, first_zero i (hj.trans h)]; rfl
  · rw [if_neg h]
    exact if_neg (first_pos i (hj.trans_ne h))

/-- A step of the first result: the exponentials' block sums by lane. -/
theorem sStep_apply (i : grid0.Coords) (x : Vec Ideal S4096x1024 .bf16) (w : Vec Ideal S1024x1280 .f32) (b : Vec Ideal S1x1280 .f32)
    (s : Vec Ideal S4096x128 .f32) (r : Fin 4096) (l : Fin 128) (f : Fin 32000 → ℝ) (P : ℝ)
    (j : Fin 25) (hj : (i 0).val = j.val) (hf : ∀ q, k0_pay2 w x b (ix2 r q) = (f (col j q) : EReal))
    (hs : s (ix2 r l) = (P : EReal)) : sStep i x w b s (ix2 r l) = (laneStep f j l P : EReal) := by
  obtain ⟨e0, e1, e2, e3, e4, e5, e6, e7, e8, e9⟩ := lane_cols j l
  pointwise [sStep, k0_pay6, k0_pay4]
  simp only [hf, hs, e0, e1, e2, e3, e4, e5, e6, e7, e8, e9, ← EReal.coe_add, ← laneBlock_ten, select_first i j hj]
  rw [laneStep]
  split_ifs <;> rfl

/-- A step of the second result: the label's column by lane. -/
theorem lStep_apply (i : grid0.Coords) (x : Vec Ideal S4096x1024 .bf16) (w : Vec Ideal S1024x1280 .f32) (b : Vec Ideal S1x1280 .f32)
    (g : Vec Ideal S4096x1 .i32)
    (s : Vec Ideal S4096x128 .f32) (r : Fin 4096) (l : Fin 128) (f : Fin 32000 → ℝ) (P : ℝ)
    (j : Fin 25) (hj : (i 0).val = j.val) (hf : ∀ q, k0_pay3 i w x b g (ix2 r q) = (f (col j q) : EReal))
    (hs : s (ix2 r l) = (P : EReal)) : lStep i x w b g s (ix2 r l) = (laneStep f j l P : EReal) := by
  obtain ⟨e0, e1, e2, e3, e4, e5, e6, e7, e8, e9⟩ := lane_cols j l
  pointwise [lStep, k0_pay7, k0_pay5]
  simp only [hf, hs, e0, e1, e2, e3, e4, e5, e6, e7, e8, e9, ← EReal.coe_add, ← laneBlock_ten, select_first i j hj]
  rw [laneStep]
  split_ifs <;> rfl

/-- A step of the third result: the weights' block sums by lane. -/
theorem cStep_apply (i : grid0.Coords) (w : Vec Ideal S1024x1280 .f32)
    (s : Vec Ideal S1024x128 .f32) (r : Fin 1024) (l : Fin 128) (f : Fin 32000 → ℝ) (P : ℝ)
    (j : Fin 25) (hj : (i 0).val = j.val) (hf : ∀ q, w (ix2 r q) = (f (col j q) : EReal))
    (hs : s (ix2 r l) = (P : EReal)) : cStep i w s (ix2 r l) = (laneStep f j l P : EReal) := by
  obtain ⟨e0, e1, e2, e3, e4, e5, e6, e7, e8, e9⟩ := lane_cols j l
  pointwise [cStep, k0_pay8]
  simp only [hf, hs, e0, e1, e2, e3, e4, e5, e6, e7, e8, e9, ← EReal.coe_add, ← laneBlock_ten, select_first i j hj]
  rw [laneStep]
  split_ifs <;> rfl

end Cert.KernelIdeal.Walk

end
-- ==== Proof.KernelBlocks.lean ====
/- What each window of the two kernels reads at a grid point, at coordinates of its array. -/
module

public import proofs.«01_k».proof.Proof.StepValue
public import Idealize.ShloMosaic.Lib.Pipeline.ValueKit

@[expose] public section

set_option maxRecDepth 16384

noncomputable section

namespace Cert.KernelIdeal.Walk

open Cert.KernelIdeal Cert.KernelIdeal.Gen Cert.Loss
open Idealize.ShloMosaic Idealize.ShloMosaic.TcCoe

variable {F : FTy → Type} [FloatOps F] [Named F]
variable (V : (c : Dev nD) → (b : Ref sig .tc) → Buf (Elt F) ((c : Thread nD τ).loc b))

/-- The weights' block index is the point's number on the columns' axis. -/
theorem index0_1 (t : Fin cfg0.N) : win0_1.index t 0 = 0 ∧ win0_1.index t 1 = t.val := by
  refine ⟨rfl, ?_⟩
  show (BitVec.ofNat 32 ((grid0.coords t) 0).val).toNat = t.val
  have h : t.val < 25 := lt_of_lt_of_eq t.isLt N_0
  rw [coord, BitVec.toNat_ofNat, Nat.mod_eq_of_lt (by omega)]

/-- The bias's block index is the point's number on the columns' axis. -/
theorem index0_2 (t : Fin cfg0.N) : win0_2.index t 0 = 0 ∧ win0_2.index t 1 = t.val := by
  refine ⟨rfl, ?_⟩
  show (BitVec.ofNat 32 ((grid0.coords t) 0).val).toNat = t.val
  have h : t.val < 25 := lt_of_lt_of_eq t.isLt N_0
  rw [coord, BitVec.toNat_ofNat, Nat.mod_eq_of_lt (by omega)]

/-- Window 0 of kernel 0 starts at its array's origin at every point. -/
theorem index0_0 (t : Fin cfg0.N) : win0_0.index t 0 = 0 ∧ win0_0.index t 1 = 0 := ⟨rfl, rfl⟩

/-- Window 3 of kernel 0 starts at its array's origin at every point. -/
theorem index0_3 (t : Fin cfg0.N) : win0_3.index t 0 = 0 ∧ win0_3.index t 1 = 0 := ⟨rfl, rfl⟩

/-- Window 4 of kernel 0 starts at its array's origin at every point. -/
theorem index0_4 (t : Fin cfg0.N) : win0_4.index t 0 = 0 ∧ win0_4.index t 1 = 0 := ⟨rfl, rfl⟩

/-- Window 5 of kernel 0 starts at its array's origin at every point. -/
theorem index0_5 (t : Fin cfg0.N) : win0_5.index t 0 = 0 ∧ win0_5.index t 1 = 0 := ⟨rfl, rfl⟩

/-- Window 6 of kernel 0 starts at its array's origin at every point. -/
theorem index0_6 (t : Fin cfg0.N) : win0_6.index t 0 = 0 ∧ win0_6.index t 1 = 0 := ⟨rfl, rfl⟩

/-- Window 0 of kernel 1 starts at its array's origin at every point. -/
theorem index1_0 (t : Fin cfg1.N) : win1_0.index t 0 = 0 ∧ win1_0.index t 1 = 0 := ⟨rfl, rfl⟩

/-- Window 1 of kernel 1 starts at its array's origin at every point. -/
theorem index1_1 (t : Fin cfg1.N) : win1_1.index t 0 = 0 ∧ win1_1.index t 1 = 0 := ⟨rfl, rfl⟩

/-- Window 2 of kernel 1 starts at its array's origin at every point. -/
theorem index1_2 (t : Fin cfg1.N) : win1_2.index t 0 = 0 ∧ win1_2.index t 1 = 0 := ⟨rfl, rfl⟩

/-- Window 3 of kernel 1 starts at its array's origin at every point. -/
theorem index1_3 (t : Fin cfg1.N) : win1_3.index t 0 = 0 ∧ win1_3.index t 1 = 0 := ⟨rfl, rfl⟩

/-- Window 4 of kernel 1 starts at its array's origin at every point. -/
theorem index1_4 (t : Fin cfg1.N) : win1_4.index t 0 = 0 ∧ win1_4.index t 1 = 0 := ⟨rfl, rfl⟩

/-- Window 5 of kernel 1 starts at its array's origin at every point. -/
theorem index1_5 (t : Fin cfg1.N) : win1_5.index t 0 = 0 ∧ win1_5.index t 1 = 0 := ⟨rfl, rfl⟩

/-- Window 6 of kernel 1 starts at its array's origin at every point. -/
theorem index1_6 (t : Fin cfg1.N) : win1_6.index t 0 = 0 ∧ win1_6.index t 1 = 0 := ⟨rfl, rfl⟩

/-- Window 7 of kernel 1 starts at its array's origin at every point. -/
theorem index1_7 (t : Fin cfg1.N) : win1_7.index t 0 = 0 ∧ win1_7.index t 1 = 0 := ⟨rfl, rfl⟩

/-- The first kernel sees all the scaled rows. -/
theorem blk0_0 (c : Dev nD) (t : Fin cfg0.N) (r : Fin 4096) (k : Fin 1024) :
    blk0 V c 0 t (ix2 r k) = V c main_v5 (ix2 r k) := by
  blk_ext [blk0, (index0_0 t).1, (index0_0 t).2, col]

/-- The first kernel sees the point's columns of the weights. -/
theorem blk0_1 (c : Dev nD) (t : Fin cfg0.N) (k : Fin 1024) (q : Fin 1280) :
    blk0 V c 1 t (ix2 k q) = V c main_arg2 (ix2 k (col (Fin.cast N_0 t) q)) := by
  blk_ext [blk0, (index0_1 t).1, (index0_1 t).2, col]
  show t.val * 1280 + q.val = 1280 * t.val + q.val
  omega

/-- The first kernel sees the point's columns of the scaled bias. -/
theorem blk0_2 (c : Dev nD) (t : Fin cfg0.N) (z : Fin 1) (q : Fin 1280) :
    blk0 V c 2 t (ix2 z q) = V c main_v8 (ix2 z (col (Fin.cast N_0 t) q)) := by
  blk_ext [blk0, (index0_2 t).1, (index0_2 t).2, col]
  show t.val * 1280 + q.val = 1280 * t.val + q.val
  omega

/-- The first kernel sees all the labels. -/
theorem blk0_3 (c : Dev nD) (t : Fin cfg0.N) (r : Fin 4096) (z : Fin 1) :
    blk0 V c 3 t (ix2 r z) = V c main_v9 (ix2 r z) := by
  blk_ext [blk0, (index0_3 t).1, (index0_3 t).2, col]

/-- The second kernel sees all the scaled rows. -/
theorem blk1_0 (c : Dev nD) (t : Fin cfg1.N) (r : Fin 4096) (k : Fin 1024) :
    blk1 V c 0 t (ix2 r k) = V c main_v5 (ix2 r k) := by
  blk_ext [blk1, (index1_0 t).1, (index1_0 t).2, col]

/-- The second kernel sees the first lanes of the weights. -/
theorem blk1_1 (c : Dev nD) (t : Fin cfg1.N) (k : Fin 1024) (q : Fin 128) :
    blk1 V c 1 t (ix2 k q) = V c main_arg2 (ix2 k ⟨q.val, by omega⟩) := by
  blk_ext [blk1, (index1_1 t).1, (index1_1 t).2, col]

/-- The second kernel sees all the scaled bias. -/
theorem blk1_2 (c : Dev nD) (t : Fin cfg1.N) (z : Fin 1) (q : Fin 32000) :
    blk1 V c 2 t (ix2 z q) = V c main_v8 (ix2 z q) := by
  blk_ext [blk1, (index1_2 t).1, (index1_2 t).2, col]

/-- The second kernel sees all the labels. -/
theorem blk1_3 (c : Dev nD) (t : Fin cfg1.N) (r : Fin 4096) (z : Fin 1) :
    blk1 V c 3 t (ix2 r z) = V c main_v9 (ix2 r z) := by
  blk_ext [blk1, (index1_3 t).1, (index1_3 t).2, col]

/-- The second kernel sees all of the first result. -/
theorem blk1_4 (c : Dev nD) (t : Fin cfg1.N) (r : Fin 4096) (p : Fin 128) :
    blk1 V c 4 t (ix2 r p) = V c main_v10_0 (ix2 r p) := by
  blk_ext [blk1, (index1_4 t).1, (index1_4 t).2, col]

/-- The second kernel sees all of the second result. -/
theorem blk1_5 (c : Dev nD) (t : Fin cfg1.N) (r : Fin 4096) (p : Fin 128) :
    blk1 V c 5 t (ix2 r p) = V c main_v10_1 (ix2 r p) := by
  blk_ext [blk1, (index1_5 t).1, (index1_5 t).2, col]

/-- The second kernel sees all of the third result. -/
theorem blk1_6 (c : Dev nD) (t : Fin cfg1.N) (r : Fin 1024) (p : Fin 128) :
    blk1 V c 6 t (ix2 r p) = V c main_v10_2 (ix2 r p) := by
  blk_ext [blk1, (index1_6 t).1, (index1_6 t).2, col]

/-- The first kernel leaves in its first result the fold of all its steps. -/
theorem arr0_4 (c : Dev nD) : (data0 V c).arrAt 4 cfg0.N = sSum V c 25 := by
  funext i
  refine ((data0 V c).arrAt_emb_eq_after_last 4 ⟨24, lt_of_lt_of_eq (by decide : 24 < 25) N_0.symm⟩ (by decide +kernel) i).trans ?_
  exact congrFun (after0_4 V c ⟨24, lt_of_lt_of_eq (by decide : 24 < 25) N_0.symm⟩) i

/-- The first kernel leaves in its second result the fold of all its steps. -/
theorem arr0_5 (c : Dev nD) : (data0 V c).arrAt 5 cfg0.N = lSum V c 25 := by
  funext i
  refine ((data0 V c).arrAt_emb_eq_after_last 5 ⟨24, lt_of_lt_of_eq (by decide : 24 < 25) N_0.symm⟩ (by decide +kernel) i).trans ?_
  exact congrFun (after0_5 V c ⟨24, lt_of_lt_of_eq (by decide : 24 < 25) N_0.symm⟩) i

/-- The first kernel leaves in its third result the fold of all its steps. -/
theorem arr0_6 (c : Dev nD) : (data0 V c).arrAt 6 cfg0.N = cSum V c 25 := by
  funext i
  refine ((data0 V c).arrAt_emb_eq_after_last 6 ⟨24, lt_of_lt_of_eq (by decide : 24 < 25) N_0.symm⟩ (by decide +kernel) i).trans ?_
  exact congrFun (after0_6 V c ⟨24, lt_of_lt_of_eq (by decide : 24 < 25) N_0.symm⟩) i

end Cert.KernelIdeal.Walk
end
-- ==== Proof.KernelFold.lean ====
/- The folds of the first kernel's steps over the extended reals: after all points, each lane holds its sum. -/
module

public import proofs.«01_k».proof.Proof.KernelBlocks

@[expose] public section

set_option maxRecDepth 16384

noncomputable section

namespace Cert.KernelIdeal.Walk

open Cert.KernelIdeal Cert.KernelIdeal.Gen Cert.Loss
open Idealize.ShloMosaic Idealize.ShloMosaic.TcCoe

variable (V : (c : Dev nD) → (b : Ref sig .tc) → Buf (Elt Ideal) ((c : Thread nD τ).loc b))

/-- A lane's step takes its partial sum one block on. -/
theorem laneStep_lanePart (f : Fin 32000 → ℝ) (l : Fin 128) (n : ℕ) (hn : n < 25) :
    laneStep f ⟨n, hn⟩ l (lanePart f l n) = lanePart f l (n + 1) := by
  rw [laneStep, lanePart, dif_pos hn]
  split_ifs with h
  · cases h; rw [lanePart, zero_add]
  · rfl

/-- A value that starts at zero and goes on by lane steps is the lane's partial sum. -/
theorem lane_fold (P : ℕ → EReal) (f : Fin 32000 → ℝ) (l : Fin 128) (h0 : P 0 = 0)
    (hs : ∀ (n : ℕ) (hn : n < 25) (p : ℝ), P n = (p : EReal) → P (n + 1) = (laneStep f ⟨n, hn⟩ l p : EReal)) :
    ∀ n ≤ 25, P n = (lanePart f l n : EReal)
  | 0, _ => h0.trans (by rw [lanePart, EReal.coe_zero])
  | n + 1, hn => by
    rw [hs n (by omega) _ (lane_fold P f l h0 hs n (by omega)), laneStep_lanePart]

variable (c : Dev nD) (X : Fin 4096 → Fin 1024 → ℝ) (W : Fin 1024 → Fin 32000 → ℝ) (B : Fin 32000 → ℝ) (G : Fin 4096 → Fin 32000)

/-- The arrays a kernel reads hold these real rows and bias, scaled, these weights and these labels. -/
structure Holds : Prop where
  x : ∀ r k, V c main_v5 (ix2 r k) = ((X r k * (1 / Real.log 2) : ℝ) : EReal)
  w : ∀ k v, V c main_arg2 (ix2 k v) = (W k v : EReal)
  b : ∀ v, V c main_v8 (ix2 0 v) = ((B v * (1 / Real.log 2) : ℝ) : EReal)
  g : ∀ r, V c main_v9 (ix2 r 0) = BitVec.ofNat 32 (G r).val

variable {V c X W B G}

/-- A block's scaled logits are the logits of its columns, scaled. -/
theorem block_logit (h : Holds V c X W B G) (t : Fin cfg0.N) (r : Fin 4096) (q : Fin 1280) :
    k0_pay1 (blk0 V c 1 t) (blk0 V c 0 t) (blk0 V c 2 t) (ix2 r q)
      = ((logit X W B r (col (Fin.cast N_0 t) q) * (1 / Real.log 2) : ℝ) : EReal) := by
  rw [pay1_apply _ _ _ r q (fun k => X r k * (1 / Real.log 2)) (fun k => W k (col (Fin.cast N_0 t) q))
    (B (col (Fin.cast N_0 t) q) * (1 / Real.log 2)) (fun k => (blk0_0 V c t r k).trans (h.x r k))
    (fun k => (blk0_1 V c t k q).trans (h.w k _)) ((blk0_2 V c t 0 q).trans (h.b _)), logit_scaled]

/-- After all points the first result's lanes hold the sums of the exponentials. -/
theorem sSum_apply (h : Holds V c X W B G) (r : Fin 4096) (l : Fin 128) :
    sSum V c 25 (ix2 r l) = (lanePart (fun v => Real.exp (logit X W B r v)) l 25 : EReal) := by
  refine lane_fold (fun n => sSum V c n (ix2 r l)) _ l Ideal.ofBits_zero_f32 (fun n hn p hp => ?_) 25 le_rfl
  have ht := sSum_succ V c ⟨n, lt_of_lt_of_eq hn N_0.symm⟩
  refine (congrFun ht _).trans (sStep_apply _ _ _ _ _ r l _ p ⟨n, hn⟩ (coord _) (fun q => ?_) hp)
  exact pay2_apply _ _ _ r q _ (block_logit h _ r q)

/-- After all points the second result's lanes hold the label's scaled logit. -/
theorem lSum_apply (h : Holds V c X W B G) (r : Fin 4096) (l : Fin 128) :
    lSum V c 25 (ix2 r l) = (lanePart (fun v => if v = G r then logit X W B r v * (1 / Real.log 2) else 0) l 25 : EReal) := by
  refine lane_fold (fun n => lSum V c n (ix2 r l)) _ l Ideal.ofBits_zero_f32 (fun n hn p hp => ?_) 25 le_rfl
  have ht := lSum_succ V c ⟨n, lt_of_lt_of_eq hn N_0.symm⟩
  refine (congrFun ht _).trans (lStep_apply _ _ _ _ _ _ r l _ p ⟨n, hn⟩ (coord _) (fun q => ?_) hp)
  rw [pay3_apply _ _ _ _ _ r q _ (G r) ((blk0_3 V c _ r 0).trans (h.g r)) (block_logit h _ r q), coord]
  refine congrArg Real.toEReal (if_congr ?_ rfl rfl)
  rw [Fin.ext_iff]
  rfl

/-- After all points the third result's lanes hold the sums of the weights' rows. -/
theorem cSum_apply (h : Holds V c X W B G) (k : Fin 1024) (l : Fin 128) :
    cSum V c 25 (ix2 k l) = (lanePart (W k) l 25 : EReal) := by
  refine lane_fold (fun n => cSum V c n (ix2 k l)) _ l Ideal.ofBits_zero_f32 (fun n hn p hp => ?_) 25 le_rfl
  have ht := cSum_succ V c ⟨n, lt_of_lt_of_eq hn N_0.symm⟩
  exact (congrFun ht _).trans (cStep_apply _ _ _ k l _ p ⟨n, hn⟩ (coord _) (fun q => (blk0_1 V c _ k q).trans (h.w k _)) hp)

end Cert.KernelIdeal.Walk
end
-- ==== Proof.Constants.lean ====
/- The float words the programs spell, as the extended reals they denote. -/
module

public import Idealize.ShloMosaic.PureOps.Ideal

@[expose] public section

noncomputable section

namespace Cert.Constants

open Idealize.ShloMosaic

/-- The word of `2.0` denotes two. -/
theorem ofBits_two : Ideal.ofBits .f32 0x40000000#32 = ((2 : ℝ) : EReal) := by
  simp [Ideal.ofBits, Ideal.ieee, -EReal.coe_mul]; try norm_num
/-- The word of `10.0` denotes ten. -/
theorem ofBits_ten : Ideal.ofBits .f32 0x41200000#32 = ((10 : ℝ) : EReal) := by
  simp [Ideal.ofBits, Ideal.ieee, -EReal.coe_mul]; try norm_num
/-- The word of `31998.0` denotes 31998. -/
theorem ofBits_31998 : Ideal.ofBits .f32 0x46F9FC00#32 = ((31998 : ℝ) : EReal) := by
  simp [Ideal.ofBits, Ideal.ieee, -EReal.coe_mul]; try norm_num
/-- The word of `32000.0` denotes 32000. -/
theorem ofBits_32000 : Ideal.ofBits .f32 0x46FA0000#32 = ((32000 : ℝ) : EReal) := by
  simp [Ideal.ofBits, Ideal.ieee, -EReal.coe_mul]; try norm_num
/-- The word of minus infinity denotes the least extended real. -/
theorem ofBits_bot : Ideal.ofBits .f32 0xFF800000#32 = ⊥ := by
  simp [Ideal.ofBits, Ideal.ieee]
/-- The word of infinity denotes the greatest extended real. -/
theorem ofBits_top : Ideal.ofBits .f32 0x7F800000#32 = ⊤ := by
  simp [Ideal.ofBits, Ideal.ieee]

end Cert.Constants

end
-- ==== Proof.FinValue.lean ====
/- The second kernel over the extended reals: the loss it stores, as a real number. -/
module

public import proofs.«01_k».proof.Proof.KernelIdealBodies
public import proofs.«01_k».proof.Proof.Loss
public import proofs.«01_k».proof.Proof.Constants
public import Idealize.ShloMosaic.Lib.Pointwise
public import Idealize.ShloMosaic.PureOps.IdealRules

@[expose] public section

set_option maxRecDepth 16384

noncomputable section

namespace Cert.KernelIdeal.Walk

open Cert.KernelIdeal Cert.KernelIdeal.Gen Cert.Loss
open Idealize.ShloMosaic Idealize.ShloMosaic.TcCoe

/-- The named `log2e` is the reciprocal of the logarithm of two. -/
theorem named_log2e : Named.named (F := Ideal) κ "log2e" (φ := .f32) 0x3FB8AA3B#32 = (((Real.log 2)⁻¹ : ℝ) : EReal) :=
  IdealRules.named_const.ideal_named_scalar _ _ _ _ rfl
/-- The named `eps` is the smoothed label of a token that is neither the true one nor the padding. -/
theorem named_eps : Named.named (F := Ideal) κ "eps" (φ := .f32) 0x3651BA72#32 = ((1 / 319980 : ℝ) : EReal) :=
  IdealRules.named_const.ideal_named_scalar _ _ _ _ rfl
/-- The named `entropy` is a row's sum of `t log t`. -/
theorem named_entropy : Named.named (F := Ideal) κ "entropy" (φ := .f32) 0xBFAE63F8#32 = ((entropy : ℝ) : EReal) :=
  IdealRules.named_const.ideal_named_scalar _ _ _ _ rfl
/-- The named `conf_minus_eps` is nine tenths less `eps`. -/
theorem named_conf_minus_eps :
    Named.named (F := Ideal) κ "conf_minus_eps" (φ := .f32) 0x3F666632#32 = ((287981 / 319980 : ℝ) : EReal) :=
  IdealRules.named_const.ideal_named_scalar _ _ _ _ rfl

/-- Dividing by `log2e` a real scaled by `1 / log 2` gives the real. -/
theorem div_log2e (y : ℝ) :
    Ideal.div ((y * (1 / Real.log 2) : ℝ) : EReal) (((Real.log 2)⁻¹ : ℝ) : EReal) = (y : EReal) := by
  rw [Ideal.div_coe (inv_ne_zero log_two_ne), ← EReal.coe_mul]
  congr 1
  field_simp [log_two_ne]

/-- Column 0 of the second kernel's product: the row times the column sums. -/
theorem fin_col0 (cs : Vec Ideal S1024x128 .f32) (w0 : Vec Ideal S1024x1 .f32) (x : Vec Ideal S4096x1024 .bf16) (r : Fin 4096)
    (xr : Fin 1024 → ℝ) (cr : Fin 1024 → Fin 128 → ℝ) (hx : ∀ k, x (ix2 r k) = (xr k : EReal))
    (hc : ∀ k l, cs (ix2 k l) = (cr k l : EReal)) :
    k1_pay2 cs w0 x (ix2 r 0) = ((∑ k, xr k * ∑ l, cr k l : ℝ) : EReal) := by
  pointwise [k1_pay2]
  simp only [hx, hc, ← EReal.coe_mul, ← coe_sum]

/-- Column 1 of the second kernel's product: the row times the padding token's column. -/
theorem fin_col1 (cs : Vec Ideal S1024x128 .f32) (w0 : Vec Ideal S1024x1 .f32) (x : Vec Ideal S4096x1024 .bf16) (r : Fin 4096)
    (xr : Fin 1024 → ℝ) (wr : Fin 1024 → ℝ) (hx : ∀ k, x (ix2 r k) = (xr k : EReal))
    (hw : ∀ k, w0 (ix2 k 0) = (wr k : EReal)) :
    k1_pay2 cs w0 x (ix2 r 1) = ((∑ k, xr k * wr k : ℝ) : EReal) := by
  pointwise [k1_pay2]
  simp only [hx, hw, ← EReal.coe_mul, ← coe_sum]

/-- The sum of a row's logits, from the product's column 0 and the scaled biases. -/
theorem fin_pay3 (cs : Vec Ideal S1024x128 .f32) (w0 : Vec Ideal S1024x1 .f32) (x : Vec Ideal S4096x1024 .bf16)
    (b : Vec Ideal S1x32000 .f32) (r : Fin 4096) (d : ℝ) (br : Fin 32000 → ℝ)
    (hd : k1_pay2 cs w0 x (ix2 r 0) = (d : EReal)) (hb : ∀ v, b (ix2 0 v) = (br v : EReal)) (y : ℝ)
    (hy : d + ∑ v, br v = y * (1 / Real.log 2)) :
    k1_pay3 cs w0 x b (ix2 r 0) = (y : EReal) := by
  pointwise [k1_pay3]
  rw [Fin.sum_univ_one, hd, named_log2e]
  simp only [hb, ← coe_sum, ← EReal.coe_add]
  rw [hy, div_log2e]

/-- The padding token's logit, from the product's column 1 and its scaled bias. -/
theorem fin_pay4 (cs : Vec Ideal S1024x128 .f32) (w0 : Vec Ideal S1024x1 .f32) (x : Vec Ideal S4096x1024 .bf16)
    (b0 : Vec Ideal S1x1 .f32) (r : Fin 4096) (d : ℝ) (br : ℝ)
    (hd : k1_pay2 cs w0 x (ix2 r 1) = (d : EReal)) (hb : b0 (ix2 0 0) = (br : EReal)) (y : ℝ)
    (hy : d + br = y * (1 / Real.log 2)) :
    k1_pay4 cs w0 x b0 (ix2 r 0) = (y : EReal) := by
  pointwise [k1_pay4]
  rw [hd, hb, named_log2e, ← EReal.coe_add, hy, div_log2e]

/-- A row's sum of exponentials, from its lanes. -/
theorem fin_pay5 (s : Vec Ideal S4096x128 .f32) (r : Fin 4096) (sr : Fin 128 → ℝ) (hs : ∀ l, s (ix2 r l) = (sr l : EReal)) :
    k1_pay5 s (ix2 r 0) = ((∑ l, sr l : ℝ) : EReal) := by
  pointwise [k1_pay5]
  simp only [hs, ← coe_sum]

/-- A row's scaled logit of the true token, from its lanes. -/
theorem fin_pay6 (s : Vec Ideal S4096x128 .f32) (r : Fin 4096) (sr : Fin 128 → ℝ) (hs : ∀ l, s (ix2 r l) = (sr l : EReal)) :
    k1_pay6 s (ix2 r 0) = ((∑ l, sr l : ℝ) : EReal) := by
  pointwise [k1_pay6]
  simp only [hs, ← coe_sum]

/-- The loss stored: over the rows whose true token is not the padding, the row losses in closed form. -/
theorem fin_pay1 (a l0 s lg : FVec Ideal S4096x1 .f32) (g : Vec Ideal S4096x1 .i32) (G : Fin 4096 → Fin 32000)
    (ar lr sr gr : Fin 4096 → ℝ) (hg : ∀ r, g (ix2 r 0) = BitVec.ofNat 32 (G r).val)
    (ha : ∀ r, a (ix2 r 0) = (ar r : EReal)) (hl : ∀ r, l0 (ix2 r 0) = (lr r : EReal))
    (hs : ∀ r, s (ix2 r 0) = (sr r : EReal)) (hpos : ∀ r, 0 < sr r)
    (hgr : ∀ r, lg (ix2 r 0) = ((gr r * (1 / Real.log 2) : ℝ) : EReal)) :
    k1_pay1 a l0 s lg (Named.named κ "log2e" 0x3FB8AA3B#32) g (ix2 0 0)
      = ((∑ r, (if G r = 0 then 0 else rowClosed (ar r) (lr r) (gr r) (Real.log (sr r))) : ℝ) : EReal) := by
  pointwise [k1_pay1]
  rw [coe_sum]
  refine Finset.sum_congr rfl fun r _ => ?_
  rw [Fin.sum_univ_one, named_entropy, named_eps, named_conf_minus_eps, named_log2e, Constants.ofBits_32000, ha, hl, hs, hgr, hg,
    div_log2e, Ideal.log_coe, if_neg (not_le.mpr (hpos r))]
  have hG := (G r).isLt
  have hz : (BitVec.ofNat 32 (G r).val = 0#32) ↔ G r = 0 := by
    rw [← BitVec.toNat_inj, Fin.ext_iff, BitVec.toNat_ofNat, BitVec.toNat_ofNat]
    simp only [Fin.val_zero]
    omega
  have hc : IntOp.cmpi .ne (BitVec.ofNat 32 (G r).val) 0#32 = BitVec.ofBool (decide ¬ G r = 0) := by
    rw [WordCmp.cmpi_ne_eq]
    exact congrArg _ (decide_eq_decide.mpr (not_congr hz))
  rw [hc, WordCmp.select_ofBool]
  by_cases h : G r = 0
  · simp [h]
  · simp only [h, not_false_eq_true, decide_true, ↓reduceIte, rowClosed]
    push_cast
    rfl

/-- What the second kernel stores, from the real numbers its blocks hold. -/
theorem fin_apply (x : Vec Ideal S4096x1024 .bf16) (w : Vec Ideal S1024x128 .f32) (b : Vec Ideal S1x32000 .f32)
    (g : Vec Ideal S4096x1 .i32) (s l : Vec Ideal S4096x128 .f32) (cs : Vec Ideal S1024x128 .f32)
    (X : Fin 4096 → Fin 1024 → ℝ) (W : Fin 1024 → Fin 32000 → ℝ) (B : Fin 32000 → ℝ) (G : Fin 4096 → Fin 32000)
    (hx : ∀ r k, x (ix2 r k) = ((X r k * (1 / Real.log 2) : ℝ) : EReal)) (hw : ∀ k, w (ix2 k 0) = (W k 0 : EReal))
    (hb : ∀ v, b (ix2 0 v) = ((B v * (1 / Real.log 2) : ℝ) : EReal)) (hg : ∀ r, g (ix2 r 0) = BitVec.ofNat 32 (G r).val)
    (hs : ∀ r p, s (ix2 r p) = (lanePart (fun v => Real.exp (logit X W B r v)) p 25 : EReal))
    (hl : ∀ r p, l (ix2 r p) = (lanePart (fun v => if v = G r then logit X W B r v * (1 / Real.log 2) else 0) p 25 : EReal))
    (hc : ∀ k p, cs (ix2 k p) = (lanePart (W k) p 25 : EReal)) :
    fin x w b g s l cs (ix2 0 0) = ((∑ r, rowSum (logit X W B r) (G r) : ℝ) : EReal) := by
  unfold fin
  rw [fin_pay1 _ _ _ _ g G (fun r => ∑ v, logit X W B r v) (fun r => logit X W B r 0)
    (fun r => ∑ v, Real.exp (logit X W B r v)) (fun r => logit X W B r (G r)) hg]
  · exact congrArg Real.toEReal (Finset.sum_congr rfl fun r _ => (rowSum_eq _ _).symm)
  · intro r
    refine fin_pay3 _ _ _ _ r _ (fun v => B v * (1 / Real.log 2)) (fin_col0 _ _ _ r _ _ (hx r) hc) hb _ ?_
    simp only [sum_lanePart]
    exact sum_logit X W B _ r
  · intro r
    refine fin_pay4 _ _ _ _ r _ (B 0 * (1 / Real.log 2)) (fin_col1 _ _ _ r _ (fun k => W k 0) (hx r) ?_) ?_ _ (logit_scaled X W B _ r 0)
    · intro k
      rw [← hw k]
      pointwise
    · rw [← hb 0]
      pointwise
  · intro r
    rw [fin_pay5 _ r _ (hs r), sum_lanePart]
  · exact fun r => Finset.sum_pos (fun u _ => Real.exp_pos _) ⟨0, Finset.mem_univ _⟩
  · intro r
    rw [fin_pay6 _ r _ (hl r), sum_lanePart]
    exact congrArg Real.toEReal (by simp only [Finset.sum_ite_eq', Finset.mem_univ, if_true])

end Cert.KernelIdeal.Walk

end
-- ==== Proof.Args.lean ====
/- The arguments as real numbers and tokens, and that the precondition gives them. -/
module

public import proofs.«01_k».proof.Proof.Loss
public import proofs.«01_k».proof.Proof.Constants
public import proofs.«01_k».proof.Proof.Gen.Pre_inputs_ok
public import Idealize.ShloMosaic.Lib.Pointwise
public import Idealize.ShloMosaic.Lib.WordCmp

@[expose] public section

noncomputable section

namespace Cert.Loss

open Idealize.ShloMosaic Cert.Pre_inputs_ok

/-- The batch a row of the flattened arrays comes from. -/
def batch (r : Fin 4096) : Fin 2 := ⟨r.val / 2048, by omega⟩

/-- The position in its batch a row of the flattened arrays comes from. -/
def pos (r : Fin 4096) : Fin 2048 := ⟨r.val % 2048, by omega⟩

/-- The arguments hold the real rows `X`, weights `W` and bias `B`, and the labels `G`. -/
structure Args (a0 : FVec Ideal S2x2048x1024 .f32) (a1 : IVec S2x2048 32) (a2 : FVec Ideal S1024x32000 .f32) (a3 : FVec Ideal S32000 .f32)
    (X : Fin 4096 → Fin 1024 → ℝ) (W : Fin 1024 → Fin 32000 → ℝ) (B : Fin 32000 → ℝ) (G : Fin 4096 → Fin 32000) : Prop where
  x : ∀ r k, a0 (ix3 (batch r) (pos r) k) = (X r k : EReal)
  g : ∀ r, a1 (ix2 (batch r) (pos r)) = BitVec.ofNat 32 (G r).val
  w : ∀ k v, a2 (ix2 k v) = (W k v : EReal)
  b : ∀ v, a3 (ix1 v) = (B v : EReal)

/-- An extended real whose magnitude compares below infinity is a real number. -/
theorem coe_of_abs_lt (a : EReal) (h : BitVec.ofBool (decide (max a (-a) < Ideal.ofBits .f32 2139095040#32)) = 1#1) :
    a = (a.toReal : EReal) := by
  have h' : max a (-a) < ⊤ := by
    rw [Cert.Constants.ofBits_top] at h
    by_contra hn
    rw [decide_eq_false hn] at h
    exact absurd h (by decide)
  induction a with
  | bot => exact absurd h' (by simp)
  | top => exact absurd h' (by simp)
  | coe a => rfl

/-- A word at least zero and below 32000, read as signed, is a token. -/
theorem token_of_range (a : BitVec 32) (h : IntOp.andi (IntOp.cmpi .sge a 0#32) (IntOp.cmpi .slt a 32000#32) = 1#1) :
    ∃ v : Fin 32000, a = BitVec.ofNat 32 v.val := by
  have hb : (0#32).sle a = true ∧ a.slt 32000#32 = true := by
    simp only [IntOp.andi, IntOp.cmpi] at h
    revert h
    cases (0#32).sle a <;> cases a.slt 32000#32 <;> decide
  have h0 : 0 ≤ a.toInt := by simpa [BitVec.sle] using hb.1
  have h1 : a.toInt < 32000 := by simpa [BitVec.slt] using hb.2
  have h2 : a.toNat < 32000 := by rw [BitVec.toInt_eq_toNat_cond] at h0 h1; split_ifs at h0 h1 <;> omega
  exact ⟨⟨a.toNat, h2⟩, by simp⟩

/-- What the precondition says of the arguments: they are real numbers and tokens. -/
theorem args_of_pre (a0 : FVec Ideal S2x2048x1024 .f32) (a1 : IVec S2x2048 32) (a2 : FVec Ideal S1024x32000 .f32) (a3 : FVec Ideal S32000 .f32)
    (h0 : (fn a0 a1 a2 a3).1 = fun _ => 1#1) (h1 : (fn a0 a1 a2 a3).2.1 = fun _ => 1#1)
    (h2 : (fn a0 a1 a2 a3).2.2.1 = fun _ => 1#1) (h3 : (fn a0 a1 a2 a3).2.2.2 = fun _ => 1#1) :
    ∃ X W B G, Args a0 a1 a2 a3 X W B G := by
  have e0 : ∀ b p k, a0 (ix3 b p k) = ((a0 (ix3 b p k)).toReal : EReal) := fun b p k => by
    have h := congrFun h0 (ix3 b p k)
    dsimp only [fn] at h
    pointwise at h
    exact coe_of_abs_lt _ h
  have e1 : ∀ b p, ∃ v : Fin 32000, a1 (ix2 b p) = BitVec.ofNat 32 v.val := fun b p => by
    have h := congrFun h1 (ix2 b p)
    dsimp only [fn] at h
    pointwise at h
    exact token_of_range _ h
  have e2 : ∀ k v, a2 (ix2 k v) = ((a2 (ix2 k v)).toReal : EReal) := fun k v => by
    have h := congrFun h2 (ix2 k v)
    dsimp only [fn] at h
    pointwise at h
    exact coe_of_abs_lt _ h
  have e3 : ∀ v, a3 (ix1 v) = ((a3 (ix1 v)).toReal : EReal) := fun v => by
    have h := congrFun h3 (ix1 v)
    dsimp only [fn] at h
    pointwise at h
    exact coe_of_abs_lt _ h
  choose g hg using e1
  exact ⟨fun r k => (a0 (ix3 (batch r) (pos r) k)).toReal, fun k v => (a2 (ix2 k v)).toReal, fun v => (a3 (ix1 v)).toReal,
    fun r => g (batch r) (pos r), fun r k => e0 _ _ k, fun r => hg _ _, e2, e3⟩

end Cert.Loss
end
-- ==== Proof.KernelValue.lean ====
/- What the kernel program returns over the extended reals, from real arguments: the summed loss of the rows. -/
module

public import proofs.«01_k».proof.Proof.KernelFold
public import proofs.«01_k».proof.Proof.FinValue
public import proofs.«01_k».proof.Proof.Args
public import proofs.«01_k».proof.Proof.KernelIdealRun
public import Idealize.ShloMosaic.Lib.StableHlo.Run
public import Idealize.ShloMosaic.Lib.Tactic.CleanTypes

@[expose] public section

set_option maxRecDepth 16384

noncomputable section

namespace Cert.KernelIdeal.Walk

open Cert.KernelIdeal Cert.KernelIdeal.Gen Cert.Loss
open Idealize.ShloMosaic Idealize.ShloMosaic.TcCoe Idealize.ShloMosaic.Tactic

variable (m : (ℓ : Loc nD τ sig) → Buf (Elt Ideal) ℓ) (ρ : Dev nD → PrngReg) (c : Dev nD)
variable {X : Fin 4096 → Fin 1024 → ℝ} {W : Fin 1024 → Fin 32000 → ℝ} {B : Fin 32000 → ℝ} {G : Fin 4096 → Fin 32000}

/-- The scale computed on the host: one over the logarithm of two. -/
theorem host_scale : Ideal.div 1 (Ideal.log (Ideal.ofBits .f32 1073741824#32)) = ((1 / Real.log 2 : ℝ) : EReal) := by
  rw [Cert.Constants.ofBits_two, Ideal.log_coe, if_neg (by norm_num), Ideal.div_coe log_two_ne, one_mul]

/-- The scaled rows the host hands the kernels: the first argument flattened, times the scale. -/
theorem host_x (r : Fin 4096) (k : Fin 1024) (x : ℝ)
    (hx : (m ((c : Thread nD τ).loc main_arg0) : Vec Ideal S2x2048x1024 .f32) (ix3 (batch r) (pos r) k) = (x : EReal)) :
    (W1 m ρ c (Proc.devRef .tc main_v5) : Vec Ideal S4096x1024 .bf16) (ix2 r k) = ((x * (1 / Real.log 2) : ℝ) : EReal) := by
  simp only [W1, hostOps0]
  after_results_simp
  clean_types
  pointwise
  rw [host_scale, EReal.coe_mul, ← hx]
  rfl

/-- The scaled bias the host hands the kernels. -/
theorem host_b (v : Fin 32000) (x : ℝ) (hx : (m ((c : Thread nD τ).loc main_arg3) : Vec Ideal S32000 .f32) (ix1 v) = (x : EReal)) :
    (W1 m ρ c (Proc.devRef .tc main_v8) : Vec Ideal S1x32000 .f32) (ix2 0 v) = ((x * (1 / Real.log 2) : ℝ) : EReal) := by
  simp only [W1, hostOps0]
  after_results_simp
  clean_types
  pointwise
  rw [host_scale, EReal.coe_mul, ← hx]

/-- The labels the host hands the kernels: the second argument flattened. -/
theorem host_g (r : Fin 4096) :
    (W1 m ρ c (Proc.devRef .tc main_v9) : Vec Ideal S4096x1 .i32) (ix2 r 0)
      = (m ((c : Thread nD τ).loc main_arg1) : Vec Ideal S2x2048 .i32) (ix2 (batch r) (pos r)) := by
  simp only [W1, hostOps0]
  after_results_simp
  clean_types
  pointwise
  rfl

variable {m} {c}

/-- The arrays the first kernel reads, of real arguments. -/
theorem holds1 (h : Args (m ((c : Thread nD τ).loc main_arg0)) (m ((c : Thread nD τ).loc main_arg1)) (m ((c : Thread nD τ).loc main_arg2))
    (m ((c : Thread nD τ).loc main_arg3)) X W B G) : Holds (V1 m ρ) c X W B G where
  x r k := host_x m ρ c r k _ (h.x r k)
  w k v := (congrFun (W1_args m ρ c main_arg2 (by decide)) (ix2 k v)).trans (h.w k v)
  b v := host_b m ρ c v _ (h.b v)
  g r := (host_g m ρ c r).trans (h.g r)

/-- The first kernel leaves what it reads. -/
theorem holds2 (h : Holds (V1 m ρ) c X W B G) : Holds (V2 m ρ) c X W B G where
  x r k := (congrFun (W2_of m ρ c main_v5 (by decide +kernel)) (ix2 r k)).trans (h.x r k)
  w k v := (congrFun (W2_of m ρ c main_arg2 (by decide +kernel)) (ix2 k v)).trans (h.w k v)
  b v := (congrFun (W2_of m ρ c main_v8 (by decide +kernel)) (ix2 0 v)).trans (h.b v)
  g r := (congrFun (W2_of m ρ c main_v9 (by decide +kernel)) (ix2 r 0)).trans (h.g r)

/-- What the second kernel returns: the summed loss of the rows. -/
theorem out_apply (h : Holds (V1 m ρ) c X W B G) :
    (W3 m ρ c (Proc.devRef .tc main_v11) : Vec Ideal S1x1 .f32) (ix2 0 0)
      = ((∑ r, rowSum (logit X W B r) (G r) : ℝ) : EReal) := by
  have h2 := holds2 ρ h
  refine (congrFun (W3_arr m ρ c 7) (ix2 0 0)).trans ?_
  refine ((data1 (V2 m ρ) c).arrAt_emb_eq_after_last 7 ⟨0, by decide⟩ (by decide +kernel) (ix2 0 0)).trans ?_
  refine (congrFun (after1_7 (V2 m ρ) c ⟨0, by decide⟩) (ix2 0 0)).trans ?_
  exact fin_apply _ _ _ _ _ _ _ X W B G (fun r k => (blk1_0 _ c _ r k).trans (h2.x r k)) (fun k => (blk1_1 _ c _ k 0).trans (h2.w k 0))
    (fun v => (blk1_2 _ c _ 0 v).trans (h2.b v)) (fun r => (blk1_3 _ c _ r 0).trans (h2.g r))
    (fun r p => (blk1_4 _ c _ r p).trans ((congrFun ((W2_arr m ρ c 4).trans (arr0_4 _ c)) (ix2 r p)).trans (sSum_apply h r p)))
    (fun r p => (blk1_5 _ c _ r p).trans ((congrFun ((W2_arr m ρ c 5).trans (arr0_5 _ c)) (ix2 r p)).trans (lSum_apply h r p)))
    (fun k p => (blk1_6 _ c _ k p).trans ((congrFun ((W2_arr m ρ c 6).trans (arr0_6 _ c)) (ix2 k p)).trans (cSum_apply h k p)))

/-- What the program returns from real arguments: the summed loss of the rows. -/
theorem result (h : Args (m ((c : Thread nD τ).loc main_arg0)) (m ((c : Thread nD τ).loc main_arg1)) (m ((c : Thread nD τ).loc main_arg2))
    (m ((c : Thread nD τ).loc main_arg3)) X W B G) :
    (W4 m ρ c (Proc.devRef .tc main_v12) : Vec Ideal S_ .f32) = fun _ => ((∑ r, rowSum (logit X W B r) (G r) : ℝ) : EReal) := by
  funext i
  rw [← out_apply ρ (holds1 ρ h)]
  simp only [W4, hostOps2]
  after_results_simp
  clean_types
  pointwise

end Cert.KernelIdeal.Walk
end
-- ==== Proof.ReferenceScatter.lean ====
/- Where the reference's two scatters write. -/
module

public import proofs.«01_k».proof.Proof.Args
public import proofs.«01_k».proof.Proof.Gen.ReferenceIdeal
public import Idealize.ShloMosaic.Lib.Routing.OpsSet
public import Idealize.ShloMosaic.Lib.Pointwise

@[expose] public section

set_option maxRecDepth 16384

noncomputable section

namespace Cert.ReferenceIdeal.Value

open Cert.ReferenceIdeal Cert.ReferenceIdeal.Gen Cert.Loss
open Idealize.ShloMosaic Idealize.ShloMosaic.TcCoe

/-- Row `k`'s confidence goes to the row and the column its two index words name. -/
theorem lands_row (idx : IVec S4096x2 32) (k r : Fin 4096) (v : Fin 32000) :
    scatter_S4096x32000_S4096x2_S4096_n_01_01_1.resultIdx? (ix1 k) idx = some (ix2 r v)
      ↔ (idx (ix2 k 0)).toInt = (r.val : Int) ∧ (idx (ix2 k 1)).toInt = (v.val : Int) := by
  have s0 : scatter_S4096x32000_S4096x2_S4096_n_01_01_1.start (ix1 k) idx 0 = (idx (ix2 k 0)).toInt := by
    refine congrArg (fun i => (idx i).toInt) ?_
    funext a; apply Fin.ext; fin_cases a <;> rfl
  have s1 : scatter_S4096x32000_S4096x2_S4096_n_01_01_1.start (ix1 k) idx 1 = (idx (ix2 k 1)).toInt := by
    refine congrArg (fun i => (idx i).toInt) ?_
    funext a; apply Fin.ext; fin_cases a <;> rfl
  have w0 : scatter_S4096x32000_S4096x2_S4096_n_01_01_1.window (ix1 k) 0 = 0 := rfl
  have w1 : scatter_S4096x32000_S4096x2_S4096_n_01_01_1.window (ix1 k) 1 = 0 := rfl
  rw [Routing.resultIdx?_eq_some]
  constructor
  · intro h
    have h0 := h 0
    have h1 := h 1
    rw [s0, w0] at h0
    rw [s1, w1] at h1
    exact ⟨by simpa using h0, by simpa using h1⟩
  · rintro ⟨h0, h1⟩ a
    fin_cases a
    · exact (congrArg₂ (· + ·) (s0.trans h0) (congrArg Nat.cast w0)).trans (by simp)
    · exact (congrArg₂ (· + ·) (s1.trans h1) (congrArg Nat.cast w1)).trans (by simp)

/-- The padding token's zero goes to the token its index word names. -/
theorem lands_pad (idx : IVec S1 32) (k : S_.Idx) (v : Fin 32000) :
    scatter_S32000_S1_S__n_0_0_0.resultIdx? k idx = some (ix1 v) ↔ (idx (ix1 0)).toInt = (v.val : Int) := by
  have s0 : scatter_S32000_S1_S__n_0_0_0.start k idx 0 = (idx (ix1 0)).toInt := by
    refine congrArg (fun i => (idx i).toInt) ?_
    funext a; apply Fin.ext; fin_cases a; rfl
  have w0 : scatter_S32000_S1_S__n_0_0_0.window k 0 = 0 := rfl
  rw [Routing.resultIdx?_eq_some]
  constructor
  · intro h
    have h0 := h 0
    rw [s0, w0] at h0
    simpa using h0
  · intro h0 a
    fin_cases a
    exact (congrArg₂ (· + ·) (s0.trans h0) (congrArg Nat.cast w0)).trans (by simp)

end Cert.ReferenceIdeal.Value
end
-- ==== Proof.ReferenceMax.lean ====
/- A row's greatest logit in the reference is a real number. -/
module

public import proofs.«01_k».proof.Proof.ReferenceScatter
public import Idealize.ShloMosaic.PureOps.Reduce

@[expose] public section

noncomputable section

namespace Cert.Loss

open Idealize.ShloMosaic

/-- The fold of the maximum over real numbers, from minus infinity, over a set that is not empty, is a real number. -/
theorem fold_max_real {ι : Type} (f : ι → EReal) (hf : ∀ i, ∃ y : ℝ, f i = (y : EReal)) (s : Finset ι) (hs : s.Nonempty) :
    ∃ M : ℝ, s.fold max (⊥ : EReal) f = (M : EReal) := by
  classical
  induction hs using Finset.Nonempty.cons_induction with
  | singleton a =>
    obtain ⟨y, hy⟩ := hf a
    exact ⟨y, by rw [Finset.fold_singleton, hy, max_bot_right]⟩
  | cons a s ha _ ih =>
    obtain ⟨y, hy⟩ := hf a
    obtain ⟨M, hM⟩ := ih
    refine ⟨max y M, ?_⟩
    rw [Finset.fold_cons, hy, hM]
    rcases le_total y M with h | h
    · rw [max_eq_right h, max_eq_right (EReal.coe_le_coe_iff.2 h)]
    · rw [max_eq_left h, max_eq_left (EReal.coe_le_coe_iff.2 h)]

/-- A row maximum of real numbers is a real number, at any shapes that reduce one axis of positive extent. -/
theorem reduce_max_real {s t u : Shape} {a : Fin s.rank} (op : EReal → EReal → EReal) [Std.Commutative op] [Std.Associative op] (hop : op = max)
    (x : s.Idx → EReal) (hx : ∀ i, ∃ y : ℝ, x i = (y : EReal)) (init : u.Idx → EReal)
    (h' : s.ReducesTo [a] t) (h : s.Reduces [a] t) (hu : 0 < u.numel) (hi : init (Shape.Idx.first hu) = ⊥) (ha : 0 < s.size a) (j : t.Idx) :
    ∃ M : ℝ, Host.reduce op x init h' hu j = (M : EReal) := by
  subst hop
  rw [Host.reduce_eq_fold_single max x init h' h hu j, hi]
  exact fold_max_real _ (fun i => hx _) _ ⟨⟨0, ha⟩, Finset.mem_univ _⟩

end Cert.Loss
end
-- ==== Proof.ReferenceValue.lean ====
/- What the reference returns over the extended reals, from real arguments: the summed loss of the rows. -/
module

public import proofs.«01_k».proof.Proof.ReferenceMax
public import proofs.«01_k».proof.Proof.Gen.ReferenceIdeal.Run
public import Idealize.ShloMosaic.Lib.Tactic.CleanTypes

@[expose] public section

set_option maxRecDepth 16384

noncomputable section

namespace Cert.ReferenceIdeal.Value

open Cert.ReferenceIdeal Cert.ReferenceIdeal.Gen Cert.Loss
open Idealize.ShloMosaic Idealize.ShloMosaic.TcCoe

/-- The reference's logits: the flattened rows times the weights, plus the bias. -/
def refLogits (a0 : FVec Ideal S2x2048x1024 .f32) (a2 : FVec Ideal S1024x32000 .f32) (a3 : FVec Ideal S32000 .f32) : FVec Ideal S4096x32000 .f32 :=
  addf (Host.dotGeneral dot_S4096x1024_S1024x32000_S4096x32000_1_0_0_1_n_n none (shapeCast _ a0 shapeCasts_S2x2048x1024_S4096x1024) a2)
    (broadcastInDim S4096x32000 ![0, 1] bcast_S1x32000_S4096x32000_0_1 (broadcastInDim S1x32000 ![1] bcast_S32000_S1x32000_1 a3))

/-- A row's greatest logit. -/
def refMax (L : FVec Ideal S4096x32000 .f32) : FVec Ideal S4096 .f32 :=
  maximumf (broadcastInDim S4096 ![] bcast_S_S4096 (constant S_ .f32 0xFF800000#32))
    (Host.reduce FloatOps.maximumf L (constant S_ .f32 0xFF800000#32) reducesTo_S4096x32000_S4096_d1 h_S_)

/-- The logits less their row's greatest. -/
def refShift (L : FVec Ideal S4096x32000 .f32) : FVec Ideal S4096x32000 .f32 :=
  subf L (broadcastInDim S4096x32000 ![0, 1] bcast_S4096x1_S4096x32000_0_1 (broadcastInDim S4096x1 ![0] bcast_S4096_S4096x1_0 (refMax L)))

/-- The scores: the logarithm of the softmax. -/
def refScores (L : FVec Ideal S4096x32000 .f32) : FVec Ideal S4096x32000 .f32 :=
  subf (refShift L) (broadcastInDim S4096x32000 ![0, 1] bcast_S4096x1_S4096x32000_0_1 (Host.log (broadcastInDim S4096x1 ![0] bcast_S4096_S4096x1_0
    (Host.reduceAdd (Host.exp (refShift L)) (constant S_ .f32 0x00000000#32) reducesTo_S4096x32000_S4096_d1 h_S_))))

/-- The labels, flattened. -/
def refLabels (a1 : IVec S2x2048 32) : IVec S4096 32 := shapeCast _ a1 shapeCasts_S2x2048_S4096

/-- Every token's equal share, the padding token's set to zero. -/
def refShare : FVec Ideal S32000 .f32 :=
  Host.scatter scatter_S32000_S1_S__n_0_0_0 (fun _ b => b) (broadcastInDim S32000 ![] bcast_S_S32000 (Host.divf (Host.divf (constant S_ .f32 0x3F800000#32) (constant S_ .f32 0x41200000#32)) (constant S_ .f32 0x46F9FC00#32))) (broadcastInDim S1 ![] bcast_S_S1 (constantI S_ 32 0#32)) (constant S_ .f32 0x00000000#32)

/-- Each row's position in the table of smoothed labels: its number and its label. -/
def refPlace (g : IVec S4096 32) : IVec S4096x2 32 :=
  concatenate S4096x2 1 [⟨S4096x1, (broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0)))⟩, ⟨S4096x1, (broadcastInDim S4096x1 ![0] bcast_S4096_S4096x1_0 (select (cmpi .slt g (broadcastInDim S4096 ![] bcast_S_S4096 (constantI S_ 32 0#32))) (addi g (broadcastInDim S4096 ![] bcast_S_S4096 (constantI S_ 32 32000#32))) g))⟩] concatenates_S4096x1_S4096x1_S4096x2_d1

/-- The shares with each row's confidence set at its label. -/
def refSet (g : IVec S4096 32) : FVec Ideal S4096x32000 .f32 :=
  Host.scatter scatter_S4096x32000_S4096x2_S4096_n_01_01_1 (fun _ b => b) (broadcastInDim S4096x32000 ![1] bcast_S32000_S4096x32000_1 refShare) (refPlace g)
    (broadcastInDim S4096 ![] bcast_S_S4096 (subf (constant S_ .f32 0x3F800000#32) (Host.divf (constant S_ .f32 0x3F800000#32) (constant S_ .f32 0x41200000#32))))

/-- The smoothed labels: those, zero in the padded rows. -/
def refTarget (g : IVec S4096 32) : FVec Ideal S4096x32000 .f32 :=
  select (broadcastInDim S4096x32000 ![0, 1] bcast_S4096x1_S4096x32000_0_1 (broadcastInDim S4096x1 ![0] bcast_S4096_S4096x1_0 (cmpi .eq g (broadcastInDim S4096 ![] bcast_S_S4096 (constantI S_ 32 0#32)))))
    (broadcastInDim S4096x32000 ![] bcast_S_S4096x32000 (id (constant S_ .f32 0x00000000#32))) (refSet g)

/-- Each token's term of the loss. -/
def refTerm (T S : FVec Ideal S4096x32000 .f32) : FVec Ideal S4096x32000 .f32 :=
  subf (select (ori (cmpf .une T (broadcastInDim S4096x32000 ![] bcast_S_S4096x32000 (constant S_ .f32 0x00000000#32))) (cmpf .une T T))
    (mulf T (Host.log T)) (broadcastInDim S4096x32000 ![] bcast_S_S4096x32000 (constant S_ .f32 0x00000000#32))) (mulf T S)

/-- The reference's result in these parts. -/
theorem result_parts (m : (ℓ : Loc nD τ sig) → Buf (Elt Ideal) ℓ) (c : Dev nD) :
    res_main_v45 m c = Host.divf (Host.reduceAdd (refTerm (refTarget (refLabels (m ((c.tc : Thread nD τ).loc main_arg1))))
      (refScores (refLogits (m ((c.tc : Thread nD τ).loc main_arg0)) (m ((c.tc : Thread nD τ).loc main_arg2)) (m ((c.tc : Thread nD τ).loc main_arg3)))))
      (constant S_ .f32 0x00000000#32) reducesTo_S4096x32000_S_d0_1 h_S_) (constant S_ .f32 0x3F800000#32) := rfl

variable {a0 : FVec Ideal S2x2048x1024 .f32} {a1 : IVec S2x2048 32} {a2 : FVec Ideal S1024x32000 .f32} {a3 : FVec Ideal S32000 .f32}
  {X : Fin 4096 → Fin 1024 → ℝ} {W : Fin 1024 → Fin 32000 → ℝ} {B : Fin 32000 → ℝ} {G : Fin 4096 → Fin 32000}

/-- The reference's logits are the logits. -/
theorem refLogits_apply (h : Args a0 a1 a2 a3 X W B G) (r : Fin 4096) (v : Fin 32000) :
    refLogits a0 a2 a3 (ix2 r v) = (logit X W B r v : EReal) := by
  have hx : ∀ k, a0 (ix3 ⟨r.val / 2048, by omega⟩ ⟨r.val % 2048, by omega⟩ k) = (X r k : EReal) := h.x r
  pointwise [refLogits]
  simp only [hx, h.w, h.b, ← EReal.coe_mul, ← coe_sum, ← EReal.coe_add]
  rfl

/-- The reference's labels are the labels. -/
theorem refLabels_apply (h : Args a0 a1 a2 a3 X W B G) (r : Fin 4096) : refLabels a1 (ix1 r) = BitVec.ofNat 32 (G r).val := by
  have hg : a1 (ix2 ⟨r.val / 2048, by omega⟩ ⟨r.val % 2048, by omega⟩) = BitVec.ofNat 32 (G r).val := h.g r
  pointwise [refLabels]
  exact hg

/-- The row maximum's operation is the greater of two numbers. -/
theorem maximumf_max : (FloatOps.maximumf : Ideal .f32 → Ideal .f32 → Ideal .f32) = max := Ideal.maximumf_eq_max

/-- The row maximum starts from minus infinity. -/
theorem max_from : (constant (F := Ideal) S_ .f32 0xFF800000#32) (Shape.Idx.first h_S_) = (⊥ : EReal) := Cert.Constants.ofBits_bot

/-- The greater of minus infinity and a real number is that number, at an index of two vectors. -/
theorem maximumf_bot {s : Shape} (x y : FVec Ideal s .f32) (j : s.Idx) (M : ℝ) (hx : x j = (⊥ : EReal)) (hy : y j = (M : EReal)) :
    maximumf x y j = (M : EReal) := by
  show max (x j : EReal) (y j : EReal) = _
  rw [hx, hy, max_bot_left]

/-- The fold a row's greatest logit is taken by gives a real number. -/
theorem refFold_apply (L : FVec Ideal S4096x32000 .f32) (hL : ∀ i, ∃ y : ℝ, L i = (y : EReal)) (j : S4096.Idx) :
    ∃ M : ℝ, Host.reduce (FloatOps.maximumf (F := Ideal) (φ := .f32)) L (constant (F := Ideal) S_ .f32 0xFF800000#32)
      reducesTo_S4096x32000_S4096_d1 h_S_ j = (M : EReal) :=
  reduce_max_real (FloatOps.maximumf (F := Ideal) (φ := .f32)) maximumf_max L hL (constant (F := Ideal) S_ .f32 0xFF800000#32)
    reducesTo_S4096x32000_S4096_d1 (by decide) h_S_ max_from (by decide) j

/-- The vector of minus infinities. -/
theorem bots_apply (j : S4096.Idx) : (broadcastInDim S4096 ![] bcast_S_S4096 (constant (F := Ideal) S_ .f32 0xFF800000#32)) j = (⊥ : EReal) :=
  Cert.Constants.ofBits_bot

/-- A row's greatest logit is a real number. -/
theorem refMax_apply (L : FVec Ideal S4096x32000 .f32) (hL : ∀ i, ∃ y : ℝ, L i = (y : EReal)) (j : S4096.Idx) :
    ∃ M : ℝ, refMax L j = (M : EReal) :=
  (refFold_apply L hL j).imp fun M hM => maximumf_bot _ _ j M (bots_apply j) hM

/-- The scores are the logits less the logarithm of the sum of their exponentials. -/
theorem refScores_apply (L : FVec Ideal S4096x32000 .f32) (l : Fin 4096 → Fin 32000 → ℝ) (hL : ∀ r v, L (ix2 r v) = (l r v : EReal))
    (r : Fin 4096) (v : Fin 32000) : refScores L (ix2 r v) = ((l r v - lse (l r) : ℝ) : EReal) := by
  obtain ⟨M, hM⟩ := refMax_apply L (fun i => by idx_vars i; exact ⟨_, hL _ _⟩) (ix1 r)
  have hs : ∀ v, refShift L (ix2 r v) = ((l r v - M : ℝ) : EReal) := fun v => by
    pointwise [refShift]
    rw [hL, hM, ← EReal.coe_sub]
  have hp : ¬ ∑ u, Real.exp (l r u - M) ≤ 0 :=
    not_le.2 (Finset.sum_pos (fun u _ => Real.exp_pos _) ⟨0, Finset.mem_univ _⟩)
  pointwise [refScores]
  simp only [hs, Ideal.exp_coe, ← coe_sum, Ideal.log_coe, if_neg hp, ← EReal.coe_sub, score_shift]

/-- The shares: nothing for the padding token, an equal part of one tenth for any other. -/
theorem refShare_apply (v : Fin 32000) : refShare (ix1 v) = ((if v = 0 then 0 else 1 / 319980 : ℝ) : EReal) := by
  have hw : ((broadcastInDim S1 ![] bcast_S_S1 (constantI S_ 32 0#32) : IVec S1 32) (ix1 0)).toInt = 0 := by decide
  split_ifs with hv
  · unfold refShare
    refine Routing.scatter_set_hit _ _ _ _ _ _ (fun k _ => ?_) ix0 ((lands_pad _ _ _).2 ?_)
    · pointwise
      exact EReal.coe_zero.symm
    · rw [hw, hv]; rfl
  · unfold refShare
    rw [Routing.scatter_set_miss]
    · pointwise
      rw [Cert.Constants.ofBits_ten, Cert.Constants.ofBits_31998, Ideal.div_coe (by norm_num), Ideal.div_coe (by norm_num), one_mul, ← EReal.coe_mul]
      exact congrArg Real.toEReal (by norm_num)
    · intro k hk
      have h := (lands_pad _ _ _).1 hk
      rw [hw] at h
      exact hv (Fin.ext (by simpa using h.symm))

/-- A word that holds a number below two to the 31 reads back, signed, as that number. -/
theorem toInt_small (n : ℕ) (h : n < 2147483648) : (BitVec.ofNat 32 n).toInt = (n : Int) := by
  rw [BitVec.toInt_ofNat', Int.bmod_def]; split_ifs <;> omega

/-- Adding an array's extent to a negative index leaves a word that holds a small number. -/
theorem wrap_small (n : ℕ) (h : n < 2147483648) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

variable (g : IVec S4096 32) (hg : ∀ r, g (ix1 r) = BitVec.ofNat 32 (G r).val)
include hg

/-- A row's place in the table: its own number, and its label. -/
theorem refPlace_apply (r : Fin 4096) : (refPlace g (ix2 r 0)).toInt = (r.val : Int) ∧ (refPlace g (ix2 r 1)).toInt = ((G r).val : Int) := by
  constructor
  · pointwise [refPlace]
    rw [wrap_small _ (by omega), toInt_small _ (by omega)]
  · pointwise [refPlace]
    rw [hg, wrap_small _ (by omega), toInt_small _ (by omega)]

/-- The table: nine tenths at each row's label, elsewhere the shares. -/
theorem refSet_apply (r : Fin 4096) (v : Fin 32000) :
    refSet g (ix2 r v) = ((if v = G r then 9 / 10 else if v = 0 then 0 else 1 / 319980 : ℝ) : EReal) := by
  split_ifs with hv h0
  · unfold refSet
    refine Routing.scatter_set_hit _ _ _ _ _ _ (fun k _ => ?_) (ix1 r) ((lands_row _ _ _ _).2 ?_)
    · pointwise
      rw [Cert.Constants.ofBits_ten, Ideal.div_coe (by norm_num), one_mul, ← EReal.coe_one, ← EReal.coe_sub]
      exact congrArg Real.toEReal (by norm_num)
    · rw [hv]; exact refPlace_apply g hg r
  all_goals
    unfold refSet
    rw [Routing.scatter_set_miss _ _ _ _ _ (fun k hk => by
      idx_vars k
      have h := (lands_row _ _ _ _).1 hk
      have h' := refPlace_apply g hg k0
      rw [h'.1, h'.2] at h
      have hk : k0 = r := Fin.ext (by omega)
      exact hv (Fin.ext (by rw [← hk]; omega)))]
    pointwise
    rw [refShare_apply]
    simp [h0]

/-- The smoothed labels. -/
theorem refTarget_apply (r : Fin 4096) (v : Fin 32000) : refTarget g (ix2 r v) = (target (G r) v : EReal) := by
  have hc : (BitVec.ofNat 32 (G r).val = 0#32) ↔ G r = 0 := by
    rw [← BitVec.toNat_inj, Fin.ext_iff]
    simp only [BitVec.toNat_ofNat, Fin.val_zero]
    omega
  pointwise [refTarget]
  rw [refSet_apply g hg, hg, WordCmp.cmpi_eq_eq, WordCmp.select_decide, target]
  simp only [hc]
  split_ifs
  · exact Ideal.ofBits_zero_f32
  all_goals rfl

omit hg

/-- A token's term: `t log t - t · score`. -/
theorem refTerm_apply (T S : FVec Ideal S4096x32000 .f32) (r : Fin 4096) (v : Fin 32000) (t s : ℝ) (ht : 0 ≤ t)
    (hT : T (ix2 r v) = (t : EReal)) (hS : S (ix2 r v) = (s : EReal)) : refTerm T S (ix2 r v) = ((t * Real.log t - t * s : ℝ) : EReal) := by
  pointwise [refTerm]
  rw [hT, hS, WordCmp.ori_ofBool, WordCmp.select_ofBool]
  rcases ht.eq_or_lt with h | h
  · subst h
    simp
  · have h1 : (t : EReal) ≠ 0 := by exact_mod_cast h.ne'
    rw [if_pos (by simp [h1]), Ideal.log_coe, if_neg (not_le.2 h), ← EReal.coe_mul, ← EReal.coe_mul, ← EReal.coe_sub]

/-- No share is negative. -/
theorem target_nonneg (g v : Fin 32000) : 0 ≤ target g v := by
  unfold target
  split_ifs <;> norm_num

/-- The reference returns the summed loss of the rows. -/
theorem result {m : (ℓ : Loc nD τ sig) → Buf (Elt Ideal) ℓ} {c : Dev nD} (h : Args (m ((c.tc : Thread nD τ).loc main_arg0))
    (m ((c.tc : Thread nD τ).loc main_arg1)) (m ((c.tc : Thread nD τ).loc main_arg2)) (m ((c.tc : Thread nD τ).loc main_arg3)) X W B G) :
    (res_main_v45 m c : FVec Ideal S_ .f32) = fun _ => ((∑ r, rowSum (logit X W B r) (G r) : ℝ) : EReal) := by
  rw [result_parts]
  have ht : ∀ r v, refTerm (refTarget (refLabels (m ((c.tc : Thread nD τ).loc main_arg1))))
      (refScores (refLogits (m ((c.tc : Thread nD τ).loc main_arg0)) (m ((c.tc : Thread nD τ).loc main_arg2)) (m ((c.tc : Thread nD τ).loc main_arg3)))) (ix2 r v) =
      ((target (G r) v * Real.log (target (G r) v) - target (G r) v * (logit X W B r v - lse (logit X W B r)) : ℝ) : EReal) := fun r v =>
    refTerm_apply _ _ r v _ _ (target_nonneg _ _) (refTarget_apply _ (refLabels_apply h) r v) (refScores_apply _ _ (refLogits_apply h) r v)
  generalize refTerm (refTarget _) _ = T at ht ⊢
  funext i
  pointwise
  simp only [ht, ← coe_sum]
  rw [← EReal.coe_one, Ideal.div_coe one_ne_zero, ← EReal.coe_mul]
  exact congrArg Real.toEReal (by rw [div_one, mul_one]; rfl)

end Cert.ReferenceIdeal.Value
end
-- ==== Proof.Algebraic.lean ====
/- The value claim: from real arguments and labels inside the vocabulary, the kernel and the reference return the same number. -/
module

public import proofs.«01_k».proof.Proof.Claims
public import proofs.«01_k».proof.Proof.KernelValue
public import proofs.«01_k».proof.Proof.ReferenceValue

@[expose] public section

noncomputable section

namespace Cert.Proof.Claims

open Idealize.ShloMosaic Idealize.ShloMosaic.TcCoe Idealize.SL.Sem Cert.Loss

/-- Both programs run from equal arguments that satisfy the precondition, leave them as they were, and return the same summed loss. -/
theorem algebraic : Cert.algebraic_KernelIdeal_ReferenceIdeal_pre_inputs_ok := by
  intro m g m' g' hpre hargs
  refine ⟨fun c => Cert.KernelIdeal.Walk.W4 m g c (Proc.devRef .tc Cert.KernelIdeal.main_v12),
    (θ_run Cert.KernelIdeal.defs _ _).mono (fun _ h => h.1) (Cert.KernelIdeal.Walk.run (F := Ideal) m g),
    (θ_run Cert.ReferenceIdeal.defs _ _).mono (fun r h c => ⟨(h c).1.trans ?_, (h c).2⟩) (Cert.ReferenceIdeal.Value.run (F := Ideal) m' g')⟩
  obtain ⟨X, W, B, G, hA⟩ := args_of_pre _ _ _ _ (hpre c).1 (hpre c).2.1 (hpre c).2.2.1 (hpre c).2.2.2
  obtain ⟨h0, h1, h2, h3⟩ := hargs c
  have hA' : Args (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) X W B G := by
    rw [h0, h1, h2, h3]
    exact hA
  exact (Cert.ReferenceIdeal.Value.result hA').trans (Cert.KernelIdeal.Walk.result g hA).symm

end Cert.Proof.Claims

end
-- ==== Proof.lean ====
module

public import proofs.«01_k».proof.Defs
public import proofs.«01_k».proof.Proof.Claims
public import proofs.«01_k».proof.Proof.Algebraic
public import proofs.«01_k».proof.Proof.Gen.Pre_inputs_ok
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Cert.Proof.Claims

/-- Every claim: the frames, the named constants, and the equal values. -/
theorem claim : Cert.Claim :=
  ⟨Cert.Kernel.Gen.facts, Cert.KernelIdeal.Gen.facts, Cert.ReferenceIdeal.Gen.facts, Cert.Pre_inputs_ok.Gen.facts,
    frame_p, frame_pi, frame_pi_pre, frame_ri, frame_ri_pre, preserves, algebraic⟩

end Cert.Proof

end
